-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_SmoothedIdeal (m : (ℓ : Loc Cert.SmoothedIdeal.nD Cert.SmoothedIdeal.τ Cert.SmoothedIdeal.sig) → Buf (Elt Ideal) ℓ) : Prop :=
  True

def Pre_SmoothedIdeal_finite [hPre_finite : Cert.Pre_finite.Facts] (m : (ℓ : Loc Cert.SmoothedIdeal.nD Cert.SmoothedIdeal.τ Cert.SmoothedIdeal.sig) → Buf (Elt Ideal) ℓ) : Prop :=
  ∀ c : Dev Cert.SmoothedIdeal.nD,
    (Cert.Pre_finite.fn (F := Ideal) (m ((c.tc : Thread Cert.SmoothedIdeal.nD Cert.SmoothedIdeal.τ).loc Cert.SmoothedIdeal.main_arg0)) (m ((c.tc : Thread Cert.SmoothedIdeal.nD Cert.SmoothedIdeal.τ).loc Cert.SmoothedIdeal.main_arg1)) (m ((c.tc : Thread Cert.SmoothedIdeal.nD Cert.SmoothedIdeal.τ).loc Cert.SmoothedIdeal.main_arg2))).1 = (fun _ => 1#1)
    ∧ (Cert.Pre_finite.fn (F := Ideal) (m ((c.tc : Thread Cert.SmoothedIdeal.nD Cert.SmoothedIdeal.τ).loc Cert.SmoothedIdeal.main_arg0)) (m ((c.tc : Thread Cert.SmoothedIdeal.nD Cert.SmoothedIdeal.τ).loc Cert.SmoothedIdeal.main_arg1)) (m ((c.tc : Thread Cert.SmoothedIdeal.nD Cert.SmoothedIdeal.τ).loc Cert.SmoothedIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_SmoothedIdeal [hSmoothedIdeal : Cert.SmoothedIdeal.Facts] : Prop :=
  ∀ (m : (ℓ : Loc Cert.SmoothedIdeal.nD Cert.SmoothedIdeal.τ Cert.SmoothedIdeal.sig) → Buf (Elt Ideal) ℓ) (g : Dev Cert.SmoothedIdeal.nD → PrngReg), Pre_SmoothedIdeal m →
    θ_run (Cert.SmoothedIdeal.defs (F := Ideal)) (onTc (τ := Cert.SmoothedIdeal.τ) (Cert.SmoothedIdeal.main (F := Ideal))) ⟨m, fun _ => 0, g⟩ (fun r => (∀ c : Dev Cert.SmoothedIdeal.nD,
      r.2.mem ((c.tc : Thread Cert.SmoothedIdeal.nD Cert.SmoothedIdeal.τ).loc Cert.SmoothedIdeal.main_arg0) = m ((c.tc : Thread Cert.SmoothedIdeal.nD Cert.SmoothedIdeal.τ).loc Cert.SmoothedIdeal.main_arg0)
      ∧ r.2.mem ((c.tc : Thread Cert.SmoothedIdeal.nD Cert.SmoothedIdeal.τ).loc Cert.SmoothedIdeal.main_arg1) = m ((c.tc : Thread Cert.SmoothedIdeal.nD Cert.SmoothedIdeal.τ).loc Cert.SmoothedIdeal.main_arg1)
      ∧ r.2.mem ((c.tc : Thread Cert.SmoothedIdeal.nD Cert.SmoothedIdeal.τ).loc Cert.SmoothedIdeal.main_arg2) = m ((c.tc : Thread Cert.SmoothedIdeal.nD Cert.SmoothedIdeal.τ).loc Cert.SmoothedIdeal.main_arg2))
      ∧ r.2.sem = fun _ => 0)

def quiescent_SmoothedIdeal_pre_finite [hSmoothedIdeal : Cert.SmoothedIdeal.Facts] [hPre_finite : Cert.Pre_finite.Facts] : Prop :=
  ∀ (m : (ℓ : Loc Cert.SmoothedIdeal.nD Cert.SmoothedIdeal.τ Cert.SmoothedIdeal.sig) → Buf (Elt Ideal) ℓ) (g : Dev Cert.SmoothedIdeal.nD → PrngReg), Pre_SmoothedIdeal_finite m →
    θ_run (Cert.SmoothedIdeal.defs (F := Ideal)) (onTc (τ := Cert.SmoothedIdeal.τ) (Cert.SmoothedIdeal.main (F := Ideal))) ⟨m, fun _ => 0, g⟩ (fun r => (∀ c : Dev Cert.SmoothedIdeal.nD,
      r.2.mem ((c.tc : Thread Cert.SmoothedIdeal.nD Cert.SmoothedIdeal.τ).loc Cert.SmoothedIdeal.main_arg0) = m ((c.tc : Thread Cert.SmoothedIdeal.nD Cert.SmoothedIdeal.τ).loc Cert.SmoothedIdeal.main_arg0)
      ∧ r.2.mem ((c.tc : Thread Cert.SmoothedIdeal.nD Cert.SmoothedIdeal.τ).loc Cert.SmoothedIdeal.main_arg1) = m ((c.tc : Thread Cert.SmoothedIdeal.nD Cert.SmoothedIdeal.τ).loc Cert.SmoothedIdeal.main_arg1)
      ∧ r.2.mem ((c.tc : Thread Cert.SmoothedIdeal.nD Cert.SmoothedIdeal.τ).loc Cert.SmoothedIdeal.main_arg2) = m ((c.tc : Thread Cert.SmoothedIdeal.nD Cert.SmoothedIdeal.τ).loc Cert.SmoothedIdeal.main_arg2))
      ∧ r.2.sem = fun _ => 0)

def preserves_Kernel_KernelIdeal : Prop :=
  True

def algebraic_KernelIdeal_ReferenceIdeal_on_apart [hKernelIdeal : Cert.KernelIdeal.Facts] [hReferenceIdeal : Cert.ReferenceIdeal.Facts] [hOn_apart : Cert.On_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v14)) (v4 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨0, ![]⟩ : Shape).Idx, (Cert.On_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.KernelIdeal.nD Cert.KernelIdeal.τ).loc Cert.KernelIdeal.main_v8) i = v0 c i)
          ∧ (∀ i : (⟨0, ![]⟩ : Shape).Idx, (Cert.On_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.KernelIdeal.nD Cert.KernelIdeal.τ).loc Cert.KernelIdeal.main_v10) i = v1 c i)
          ∧ (∀ i : (⟨0, ![]⟩ : Shape).Idx, (Cert.On_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 i = 1#1 → r.2.mem ((c.tc : Thread Cert.KernelIdeal.nD Cert.KernelIdeal.τ).loc Cert.KernelIdeal.main_v12) i = v2 c i)
          ∧ (∀ i : (⟨0, ![]⟩ : Shape).Idx, (Cert.On_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.1 i = 1#1 → r.2.mem ((c.tc : Thread Cert.KernelIdeal.nD Cert.KernelIdeal.τ).loc Cert.KernelIdeal.main_v14) i = v3 c i)
          ∧ (∀ i : (⟨0, ![]⟩ : Shape).Idx, (Cert.On_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2 i = 1#1 → r.2.mem ((c.tc : Thread Cert.KernelIdeal.nD Cert.KernelIdeal.τ).loc Cert.KernelIdeal.main_v16) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨0, ![]⟩ : Shape).Idx, (Cert.On_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.ReferenceIdeal.nD Cert.ReferenceIdeal.τ).loc Cert.ReferenceIdeal.main_v82) i = v0 c i)
          ∧ (∀ i : (⟨0, ![]⟩ : Shape).Idx, (Cert.On_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.ReferenceIdeal.nD Cert.ReferenceIdeal.τ).loc Cert.ReferenceIdeal.main_v10) i = v1 c i)
          ∧ (∀ i : (⟨0, ![]⟩ : Shape).Idx, (Cert.On_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 i = 1#1 → r.2.mem ((c.tc : Thread Cert.ReferenceIdeal.nD Cert.ReferenceIdeal.τ).loc Cert.ReferenceIdeal.main_v42) i = v2 c i)
          ∧ (∀ i : (⟨0, ![]⟩ : Shape).Idx, (Cert.On_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.1 i = 1#1 → r.2.mem ((c.tc : Thread Cert.ReferenceIdeal.nD Cert.ReferenceIdeal.τ).loc Cert.ReferenceIdeal.main_v77) i = v3 c i)
          ∧ (∀ i : (⟨0, ![]⟩ : Shape).Idx, (Cert.On_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2 i = 1#1 → r.2.mem ((c.tc : Thread Cert.ReferenceIdeal.nD Cert.ReferenceIdeal.τ).loc Cert.ReferenceIdeal.main_v83) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def algebraic_KernelIdeal_SmoothedIdeal_pre_finite [hKernelIdeal : Cert.KernelIdeal.Facts] [hSmoothedIdeal : Cert.SmoothedIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SmoothedIdeal.nD Cert.SmoothedIdeal.τ Cert.SmoothedIdeal.sig) → Buf (Elt Ideal) ℓ) (g' : Dev Cert.SmoothedIdeal.nD → PrngReg), Pre_KernelIdeal_finite m →
    (∀ c : Dev Cert.KernelIdeal.nD,
      m' ((c.tc : Thread Cert.SmoothedIdeal.nD Cert.SmoothedIdeal.τ).loc Cert.SmoothedIdeal.main_arg0) = m ((c.tc : Thread Cert.KernelIdeal.nD Cert.KernelIdeal.τ).loc Cert.KernelIdeal.main_arg0)
      ∧ m' ((c.tc : Thread Cert.SmoothedIdeal.nD Cert.SmoothedIdeal.τ).loc Cert.SmoothedIdeal.main_arg1) = m ((c.tc : Thread Cert.KernelIdeal.nD Cert.KernelIdeal.τ).loc Cert.KernelIdeal.main_arg1)
      ∧ m' ((c.tc : Thread Cert.SmoothedIdeal.nD Cert.SmoothedIdeal.τ).loc Cert.SmoothedIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v14)) (v4 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v14) = v3 c
          ∧ r.2.mem ((c.tc : Thread Cert.KernelIdeal.nD Cert.KernelIdeal.τ).loc Cert.KernelIdeal.main_v16) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.SmoothedIdeal.defs (F := Ideal)) (onTc (τ := Cert.SmoothedIdeal.τ) (Cert.SmoothedIdeal.main (F := Ideal))) ⟨m', fun _ => 0, g'⟩ (fun r => ∀ c : Dev Cert.SmoothedIdeal.nD,
          r.2.mem ((c.tc : Thread Cert.SmoothedIdeal.nD Cert.SmoothedIdeal.τ).loc Cert.SmoothedIdeal.main_v81) = v0 c
          ∧ r.2.mem ((c.tc : Thread Cert.SmoothedIdeal.nD Cert.SmoothedIdeal.τ).loc Cert.SmoothedIdeal.main_v10) = v1 c
          ∧ r.2.mem ((c.tc : Thread Cert.SmoothedIdeal.nD Cert.SmoothedIdeal.τ).loc Cert.SmoothedIdeal.main_v42) = v2 c
          ∧ r.2.mem ((c.tc : Thread Cert.SmoothedIdeal.nD Cert.SmoothedIdeal.τ).loc Cert.SmoothedIdeal.main_v76) = v3 c
          ∧ r.2.mem ((c.tc : Thread Cert.SmoothedIdeal.nD Cert.SmoothedIdeal.τ).loc Cert.SmoothedIdeal.main_v82) = v4 c
          ∧ r.2.mem ((c.tc : Thread Cert.SmoothedIdeal.nD Cert.SmoothedIdeal.τ).loc Cert.SmoothedIdeal.main_arg0) = m' ((c.tc : Thread Cert.SmoothedIdeal.nD Cert.SmoothedIdeal.τ).loc Cert.SmoothedIdeal.main_arg0)
          ∧ r.2.mem ((c.tc : Thread Cert.SmoothedIdeal.nD Cert.SmoothedIdeal.τ).loc Cert.SmoothedIdeal.main_arg1) = m' ((c.tc : Thread Cert.SmoothedIdeal.nD Cert.SmoothedIdeal.τ).loc Cert.SmoothedIdeal.main_arg1)
          ∧ r.2.mem ((c.tc : Thread Cert.SmoothedIdeal.nD Cert.SmoothedIdeal.τ).loc Cert.SmoothedIdeal.main_arg2) = m' ((c.tc : Thread Cert.SmoothedIdeal.nD Cert.SmoothedIdeal.τ).loc Cert.SmoothedIdeal.main_arg2))

def holds_KernelIdeal_close_pre_finite [hKernelIdeal : Cert.KernelIdeal.Facts] [hPre_finite : Cert.Pre_finite.Facts] [hPost_close : Cert.Post_close.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ (Cert.Post_close.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (r.2.mem ((c.tc : Thread Cert.KernelIdeal.nD Cert.KernelIdeal.τ).loc Cert.KernelIdeal.main_v8)) (r.2.mem ((c.tc : Thread Cert.KernelIdeal.nD Cert.KernelIdeal.τ).loc Cert.KernelIdeal.main_v10)) (r.2.mem ((c.tc : Thread Cert.KernelIdeal.nD Cert.KernelIdeal.τ).loc Cert.KernelIdeal.main_v12)) (r.2.mem ((c.tc : Thread Cert.KernelIdeal.nD Cert.KernelIdeal.τ).loc Cert.KernelIdeal.main_v14)) (r.2.mem ((c.tc : Thread Cert.KernelIdeal.nD Cert.KernelIdeal.τ).loc Cert.KernelIdeal.main_v16))).1 = (fun _ => 1#1)
      ∧ (Cert.Post_close.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (r.2.mem ((c.tc : Thread Cert.KernelIdeal.nD Cert.KernelIdeal.τ).loc Cert.KernelIdeal.main_v8)) (r.2.mem ((c.tc : Thread Cert.KernelIdeal.nD Cert.KernelIdeal.τ).loc Cert.KernelIdeal.main_v10)) (r.2.mem ((c.tc : Thread Cert.KernelIdeal.nD Cert.KernelIdeal.τ).loc Cert.KernelIdeal.main_v12)) (r.2.mem ((c.tc : Thread Cert.KernelIdeal.nD Cert.KernelIdeal.τ).loc Cert.KernelIdeal.main_v14)) (r.2.mem ((c.tc : Thread Cert.KernelIdeal.nD Cert.KernelIdeal.τ).loc Cert.KernelIdeal.main_v16))).2.1 = (fun _ => 1#1)
      ∧ (Cert.Post_close.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (r.2.mem ((c.tc : Thread Cert.KernelIdeal.nD Cert.KernelIdeal.τ).loc Cert.KernelIdeal.main_v8)) (r.2.mem ((c.tc : Thread Cert.KernelIdeal.nD Cert.KernelIdeal.τ).loc Cert.KernelIdeal.main_v10)) (r.2.mem ((c.tc : Thread Cert.KernelIdeal.nD Cert.KernelIdeal.τ).loc Cert.KernelIdeal.main_v12)) (r.2.mem ((c.tc : Thread Cert.KernelIdeal.nD Cert.KernelIdeal.τ).loc Cert.KernelIdeal.main_v14)) (r.2.mem ((c.tc : Thread Cert.KernelIdeal.nD Cert.KernelIdeal.τ).loc Cert.KernelIdeal.main_v16))).2.2.1 = (fun _ => 1#1)
      ∧ (Cert.Post_close.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (r.2.mem ((c.tc : Thread Cert.KernelIdeal.nD Cert.KernelIdeal.τ).loc Cert.KernelIdeal.main_v8)) (r.2.mem ((c.tc : Thread Cert.KernelIdeal.nD Cert.KernelIdeal.τ).loc Cert.KernelIdeal.main_v10)) (r.2.mem ((c.tc : Thread Cert.KernelIdeal.nD Cert.KernelIdeal.τ).loc Cert.KernelIdeal.main_v12)) (r.2.mem ((c.tc : Thread Cert.KernelIdeal.nD Cert.KernelIdeal.τ).loc Cert.KernelIdeal.main_v14)) (r.2.mem ((c.tc : Thread Cert.KernelIdeal.nD Cert.KernelIdeal.τ).loc Cert.KernelIdeal.main_v16))).2.2.2 = (fun _ => 1#1))

def Claim : Prop :=
  ∃ (hKernel : Cert.Kernel.Facts) (hKernelIdeal : Cert.KernelIdeal.Facts) (hReferenceIdeal : Cert.ReferenceIdeal.Facts) (hSmoothedIdeal : Cert.SmoothedIdeal.Facts) (hPre_finite : Cert.Pre_finite.Facts) (hPost_close : Cert.Post_close.Facts) (hOn_apart : Cert.On_apart.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_SmoothedIdeal (hSmoothedIdeal := hSmoothedIdeal)
    ∧ quiescent_SmoothedIdeal_pre_finite (hSmoothedIdeal := hSmoothedIdeal) (hPre_finite := hPre_finite)
    ∧ preserves_Kernel_KernelIdeal
    ∧ algebraic_KernelIdeal_ReferenceIdeal_on_apart (hKernelIdeal := hKernelIdeal) (hReferenceIdeal := hReferenceIdeal) (hOn_apart := hOn_apart)
    ∧ algebraic_KernelIdeal_SmoothedIdeal_pre_finite (hKernelIdeal := hKernelIdeal) (hSmoothedIdeal := hSmoothedIdeal) (hPre_finite := hPre_finite)
    ∧ holds_KernelIdeal_close_pre_finite (hKernelIdeal := hKernelIdeal) (hPre_finite := hPre_finite) (hPost_close := hPost_close)
-- ==== On_apart.lean ====
abbrev S320000x128 : Shape := ⟨2, ![320000, 128]⟩
abbrev S320000x64 : Shape := ⟨2, ![320000, 64]⟩
abbrev S64x128 : Shape := ⟨2, ![64, 128]⟩
abbrev S_ : Shape := ⟨0, ![]⟩

class Facts : Prop where

variable [Facts]

def fn {F : FTy → Type} [FloatOps F] (main_arg0 : FVec F S320000x128 .f32) (main_arg1 : FVec F S320000x64 .f32) (main_arg2 : FVec F S64x128 .f32) : IVec S_ 1 × IVec S_ 1 × IVec S_ 1 × IVec S_ 1 × IVec S_ 1 :=
  let main_c : IVec S_ 1 := constantI S_ 1 0#1
  let main_c_0 : IVec S_ 1 := constantI S_ 1 1#1
  let main_c_1 : IVec S_ 1 := constantI S_ 1 1#1
  let main_c_2 : IVec S_ 1 := constantI S_ 1 0#1
  let main_c_3 : IVec S_ 1 := constantI S_ 1 1#1
  (main_c, main_c_0, main_c_1, main_c_2, main_c_3)
-- ==== Post_close.lean ====
abbrev S320000x128 : Shape := ⟨2, ![320000, 128]⟩
abbrev S320000x64 : Shape := ⟨2, ![320000, 64]⟩
abbrev S64x128 : Shape := ⟨2, ![64, 128]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S128x64 : Shape := ⟨2, ![128, 64]⟩
abbrev S320000 : Shape := ⟨1, ![320000]⟩
abbrev S320000x1 : Shape := ⟨2, ![320000, 1]⟩
abbrev S1 : Shape := ⟨1, ![1]⟩

class Facts : Prop where
  reducesTo_S320000x64_S64_d0 : S320000x64.ReducesTo [0] S64
  h_S_ : 0 < S_.numel
  bcast_S_S64 : S_.BroadcastsInDim S64 (![] : Fin 0 → Fin S64.rank)
  reducesTo_S64_S_d0 : S64.ReducesTo [0] S_
  reducesTo_S64x128_S64_d1 : S64x128.ReducesTo [1] S64
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  transposes_S64x128_S128x64_1_0 : S64x128.Transposes [1, 0] S128x64
  bcast_S_S64x64 : S_.BroadcastsInDim S64x64 (![] : Fin 0 → Fin S64x64.rank)
  reducesTo_S64x64_S_d0_1 : S64x64.ReducesTo [0, 1] S_
  natLt_1_32 : 1 < 32
  reducesTo_S320000x64_S320000_d1 : S320000x64.ReducesTo [1] S320000
  bcast_S_S320000 : S_.BroadcastsInDim S320000 (![] : Fin 0 → Fin S320000.rank)
  bcast_S320000_S320000x1_0 : S320000.BroadcastsInDim S320000x1 (![0] : Fin 1 → Fin S320000x1.rank)
  reducesTo_S320000x128_S320000_d1 : S320000x128.ReducesTo [1] S320000
  bcast_S_S1 : S_.BroadcastsInDim S1 (![] : Fin 0 → Fin S1.rank)
  bcast_S1_S64_0 : S1.BroadcastsInDim S64 (![0] : Fin 1 → Fin S64.rank)
  dot_S64x128_S128x64_S64x64_1_0_0_1_n_n_wf : DotDims.WF S64x128 S128x64 S64x64 [1] [0] [0] [1] [] []
  gather_S64x128_S320000x1_S320000x128_1_0_n_n_0_1_1128_wf : GatherDims.WF S64x128 S320000x1 S320000x128 [1] [0] [] [0] [] 1 ![1, 128]
  scatter_S64_S320000x1_S320000_n_0_0_1_wf : ScatterDims.WF S64 S320000x1 S320000 [] [0] [0] 1

variable [Facts]

variable {F : FTy → Type} [FloatOps F]
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S64x128_S320000x1_S320000x128_1_0_n_n_0_1_1128 : GatherDims S64x128 S320000x1 S320000x128 where
  offsetDims := [1]
  collapsedSliceDims := [0]
  operandBatchingDims := []
  startIndicesBatchingDims := []
  startIndexMap := [0]
  indexVectorDim := 1
  sliceSizes := ![1, 128]
  wf := gather_S64x128_S320000x1_S320000x128_1_0_n_n_0_1_1128_wf
def scatter_S64_S320000x1_S320000_n_0_0_1 : ScatterDims S64 S320000x1 S320000 where
  updateWindowDims := []
  insertedWindowDims := [0]
  scatterDimsToOperandDims := [0]
  indexVectorDim := 1
  wf := scatter_S64_S320000x1_S320000_n_0_0_1_wf

def fn_where {F : FTy → Type} [FloatOps F] (arg0 : IVec S64x64 1) (arg1 : FVec F S64x64 .f32) (arg2 : FVec F S_ .f32) : FVec F S64x64 .f32 :=
  let v0 : FVec F S_ .f32 := id arg2
  let v1 : FVec F S64x64 .f32 := broadcastInDim S64x64 ![] bcast_S_S64x64 v0
  let v2 : FVec F S64x64 .f32 := select arg0 arg1 v1
  v2

def fn_argmax {F : FTy → Type} [FloatOps F] (arg0 : FVec F S320000x64 .f32) : IVec S320000 32 :=
  let v0 : IVec S320000x64 32 := iotaInDim S320000x64 32 1
  let cst : FVec F S_ .f32 := constant S_ .f32 0xFF800000#32
  let c : IVec S_ 32 := constantI S_ 32 0#32
  let v1_0 : FVec F S320000 .f32 := (fun x y u v j => (Host.argReduce reducer_argmax_f32_i32 x y u v reducesTo_S320000x64_S320000_d1 h_S_ j).1) arg0 v0 cst c
  let v1_1 : IVec S320000 32 := (fun x y u v j => (Host.argReduce reducer_argmax_f32_i32 x y u v reducesTo_S320000x64_S320000_d1 h_S_ j).2) arg0 v0 cst c
  v1_1

def fn_where_0 {F : FTy → Type} [FloatOps F] (arg0 : IVec S320000 1) (arg1 : FVec F S320000 .f32) (arg2 : FVec F S_ .f32) : FVec F S320000 .f32 :=
  let v0 : FVec F S_ .f32 := id arg2
  let v1 : FVec F S320000 .f32 := broadcastInDim S320000 ![] bcast_S_S320000 v0
  let v2 : FVec F S320000 .f32 := select arg0 arg1 v1
  v2

def fn_where_1 {F : FTy → Type} [FloatOps F] (arg0 : IVec S64 1) (arg1 : FVec F S64 .f32) (arg2 : FVec F S_ .f32) : FVec F S64 .f32 :=
  let v0 : FVec F S_ .f32 := id arg2
  let v1 : FVec F S64 .f32 := broadcastInDim S64 ![] bcast_S_S64 v0
  let v2 : FVec F S64 .f32 := select arg0 arg1 v1
  v2

def fn_where_2 {F : FTy → Type} [FloatOps F] (arg0 : IVec S_ 1) (arg1 : FVec F S_ .f32) (arg2 : FVec F S_ .f32) : FVec F S_ .f32 :=
  let v0 : FVec F S_ .f32 := id arg2
  let v1 : FVec F S_ .f32 := select arg0 arg1 v0
  v1

def fn_var {F : FTy → Type} [FloatOps F] (arg0 : FVec F S64 .f32) (arg1 : IVec S_ 32) : FVec F S_ .f32 :=
  let cst : FVec F S_ .f32 := constant S_ .f32 0x00000000#32
  let v0 : FVec F S_ .f32 := (fun x v => Host.reduceAdd x v reducesTo_S64_S_d0 h_S_) arg0 cst
  let v1 : FVec F S1 .f32 := broadcastInDim S1 ![] bcast_S_S1 v0
  let cst_0 : FVec F S_ .f32 := constant S_ .f32 0x42800000#32
  let v2 : FVec F S1 .f32 := broadcastInDim S1 ![] bcast_S_S1 cst_0
  let v3 : FVec F S1 .f32 := Host.divf v1 v2
  let v4 : FVec F S64 .f32 := broadcastInDim S64 ![0] bcast_S1_S64_0 v3
  let v5 : FVec F S64 .f32 := subf arg0 v4
  let v6 : FVec F S64 .f32 := mulf v5 v5
  let v7 : FVec F S_ .f32 := sitofp .f32 arg1
  let cst_1 : FVec F S_ .f32 := constant S_ .f32 0x42800000#32
  let v8 : FVec F S_ .f32 := subf cst_1 v7
  let cst_2 : FVec F S_ .f32 := constant S_ .f32 0x00000000#32
  let v9 : FVec F S_ .f32 := (fun x v => Host.reduceAdd x v reducesTo_S64_S_d0 h_S_) v6 cst_2
  let v10 : FVec F S_ .f32 := Host.divf v9 v8
  let cst_3 : FVec F S_ .f32 := constant S_ .f32 0x00000000#32
  let v11 : IVec S_ 1 := cmpf .ogt v8 cst_3
  let cst_4 : FVec F S_ .f32 := constant S_ .f32 0x7FC00000#32
  let v12 : FVec F S_ .f32 := fn_where_2 (F := F) v11 v10 cst_4
  v12

def fn_std {F : FTy → Type} [FloatOps F] (arg0 : FVec F S64 .f32) (arg1 : IVec S_ 32) : FVec F S_ .f32 :=
  let v0 : FVec F S_ .f32 := fn_var (F := F) arg0 arg1
  let v1 : FVec F S_ .f32 := Host.sqrt v0
  v1

def fn_part5 {F : FTy → Type} [FloatOps F] (main_arg3 : FVec F S_ .f32) (main_arg6 : FVec F S_ .f32) (main_v77 : FVec F S_ .f32) (main_v82 : FVec F S_ .f32) : IVec S_ 1 × IVec S_ 1 × IVec S_ 1 × IVec S_ 1 :=
  let main_cst_34 : FVec F S_ .f32 := constant S_ .f32 0x33D6BF95#32
  let main_v84 : FVec F S_ .f32 := addf main_v82 main_cst_34
  let main_v85 : IVec S_ 1 := cmpf .ole main_arg3 main_v84
  let main_cst_35 : FVec F S_ .f32 := constant S_ .f32 0x33D6BF95#32
  let main_v86 : FVec F S_ .f32 := addf main_arg3 main_cst_35
  let main_v87 : IVec S_ 1 := cmpf .ole main_v82 main_v86
  let main_cst_36 : FVec F S_ .f32 := constant S_ .f32 0x358637BD#32
  let main_v88 : FVec F S_ .f32 := addf main_v77 main_cst_36
  let main_v89 : IVec S_ 1 := cmpf .ole main_arg6 main_v88
  let main_cst_37 : FVec F S_ .f32 := constant S_ .f32 0x358637BD#32
  let main_v90 : FVec F S_ .f32 := addf main_arg6 main_cst_37
  let main_v91 : IVec S_ 1 := cmpf .ole main_v77 main_v90
  (main_v85, main_v87, main_v89, main_v91)

def fn_part4 {F : FTy → Type} [FloatOps F] (main_arg3 : FVec F S_ .f32) (main_arg6 : FVec F S_ .f32) (main_v2 : FVec F S64 .f32) (main_v10 : FVec F S_ .f32) (main_v42 : FVec F S_ .f32) (main_v67 : IVec S64 1) (main_v69 : FVec F S64 .f32) : IVec S_ 1 × IVec S_ 1 × IVec S_ 1 × IVec S_ 1 :=
  let main_v70 : FVec F S64 .f32 := uitofp .f32 main_v67
  let main_cst_24 : FVec F S_ .f32 := constant S_ .f32 0x00000000#32
  let main_v71 : FVec F S_ .f32 := (fun x v => Host.reduceAdd x v reducesTo_S64_S_d0 h_S_) main_v70 main_cst_24
  let main_cst_25 : FVec F S_ .f32 := constant S_ .f32 0x00000000#32
  let main_v72 : IVec S_ 1 := cmpf .ogt main_v71 main_cst_25
  let main_cst_26 : FVec F S_ .f32 := constant S_ .f32 0x00000000#32
  let main_v73 : FVec F S64 .f32 := fn_where_1 (F := F) main_v67 main_v69 main_cst_26
  let main_cst_27 : FVec F S_ .f32 := constant S_ .f32 0x00000000#32
  let main_v74 : FVec F S_ .f32 := (fun x v => Host.reduceAdd x v reducesTo_S64_S_d0 h_S_) main_v73 main_cst_27
  let main_cst_28 : FVec F S_ .f32 := constant S_ .f32 0x3F800000#32
  let main_v75 : FVec F S_ .f32 := maximumf main_v71 main_cst_28
  let main_v76 : FVec F S_ .f32 := Host.divf main_v74 main_v75
  let main_cst_29 : FVec F S_ .f32 := constant S_ .f32 0x00000000#32
  let main_v77 : FVec F S_ .f32 := fn_where_2 (F := F) main_v72 main_v76 main_cst_29
  let main_cst_30 : FVec F S_ .f32 := constant S_ .f32 0x3DCCCCCD#32
  let main_v78 : FVec F S_ .f32 := mulf main_cst_30 main_v10
  let main_cst_31 : FVec F S_ .f32 := constant S_ .f32 0x3DCCCCCD#32
  let main_v79 : FVec F S_ .f32 := mulf main_cst_31 main_v42
  let main_v80 : FVec F S_ .f32 := addf main_v78 main_v79
  let main_cst_32 : FVec F S_ .f32 := constant S_ .f32 0x3DCCCCCD#32
  let main_v81 : FVec F S_ .f32 := mulf main_cst_32 main_v77
  let main_v82 : FVec F S_ .f32 := addf main_v80 main_v81
  let main_c_33 : IVec S_ 32 := constantI S_ 32 1#32
  let main_v83 : FVec F S_ .f32 := fn_std (F := F) main_v2 main_c_33
  fn_part5 (F := F) main_arg3 main_arg6 main_v77 main_v82

def fn_part3 {F : FTy → Type} [FloatOps F] (main_arg3 : FVec F S_ .f32) (main_arg6 : FVec F S_ .f32) (main_v2 : FVec F S64 .f32) (main_v10 : FVec F S_ .f32) (main_v42 : FVec F S_ .f32) (main_v43 : IVec S320000 32) (main_v53 : FVec F S320000 .f32) : IVec S_ 1 × IVec S_ 1 × IVec S_ 1 × IVec S_ 1 :=
  let main_cst_16 : FVec F S_ .f32 := constant S_ .f32 0x00000000#32
  let main_v54 : FVec F S320000 .f32 := broadcastInDim S320000 ![] bcast_S_S320000 main_cst_16
  let main_v55 : IVec S320000 1 := cmpf .ogt main_v53 main_v54
  let main_cst_17 : FVec F S_ .f32 := constant S_ .f32 0x3F800000#32
  let main_v56 : FVec F S320000 .f32 := fn_where_0 (F := F) main_v55 main_v53 main_cst_17
  let main_v57 : FVec F S320000 .f32 := Host.sqrt main_v56
  let main_cst_18 : FVec F S_ .f32 := constant S_ .f32 0x00000000#32
  let main_v58 : FVec F S320000 .f32 := fn_where_0 (F := F) main_v55 main_v57 main_cst_18
  let main_cst_19 : FVec F S_ .f32 := constant S_ .f32 0x00000000#32
  let main_v59 : FVec F S64 .f32 := broadcastInDim S64 ![] bcast_S_S64 main_cst_19
  let main_v60 : IVec S320000x1 32 := broadcastInDim S320000x1 ![0] bcast_S320000_S320000x1_0 main_v43
  let main_v61 : FVec F S64 .f32 := (fun x i u => Host.scatterAdd scatter_S64_S320000x1_S320000_n_0_0_1 x i u) main_v59 main_v60 main_v58
  let main_cst_20 : FVec F S_ .f32 := constant S_ .f32 0x3F800000#32
  let main_v62 : FVec F S320000 .f32 := broadcastInDim S320000 ![] bcast_S_S320000 main_cst_20
  let main_cst_21 : FVec F S_ .f32 := constant S_ .f32 0x00000000#32
  let main_v63 : FVec F S64 .f32 := broadcastInDim S64 ![] bcast_S_S64 main_cst_21
  let main_v64 : IVec S320000x1 32 := broadcastInDim S320000x1 ![0] bcast_S320000_S320000x1_0 main_v43
  let main_v65 : FVec F S64 .f32 := (fun x i u => Host.scatterAdd scatter_S64_S320000x1_S320000_n_0_0_1 x i u) main_v63 main_v64 main_v62
  let main_cst_22 : FVec F S_ .f32 := constant S_ .f32 0x00000000#32
  let main_v66 : FVec F S64 .f32 := broadcastInDim S64 ![] bcast_S_S64 main_cst_22
  let main_v67 : IVec S64 1 := cmpf .ogt main_v65 main_v66
  let main_cst_23 : FVec F S_ .f32 := constant S_ .f32 0x3F800000#32
  let main_v68 : FVec F S64 .f32 := fn_where_1 (F := F) main_v67 main_v65 main_cst_23
  let main_v69 : FVec F S64 .f32 := Host.divf main_v61 main_v68
  fn_part4 (F := F) main_arg3 main_arg6 main_v2 main_v10 main_v42 main_v67 main_v69

def fn_part2 {F : FTy → Type} [FloatOps F] (main_arg0 : FVec F S320000x128 .f32) (main_arg1 : FVec F S320000x64 .f32) (main_arg2 : FVec F S64x128 .f32) (main_arg3 : FVec F S_ .f32) (main_arg6 : FVec F S_ .f32) (main_v2 : FVec F S64 .f32) (main_v10 : FVec F S_ .f32) (main_v29 : FVec F S64x64 .f32) (main_v35 : IVec S64x64 1) : IVec S_ 1 × IVec S_ 1 × IVec S_ 1 × IVec S_ 1 :=
  let main_cst_10 : FVec F S_ .f32 := constant S_ .f32 0x00000000#32
  let main_v36 : FVec F S64x64 .f32 := fn_where (F := F) main_v35 main_v29 main_cst_10
  let main_cst_11 : FVec F S_ .f32 := constant S_ .f32 0x00000000#32
  let main_v37 : FVec F S_ .f32 := (fun x v => Host.reduceAdd x v reducesTo_S64x64_S_d0_1 h_S_) main_v36 main_cst_11
  let main_v38 : FVec F S_ .f32 := Host.negf main_v37
  let main_v39 : IVec S64x64 32 := (extui 32 · natLt_1_32) main_v35
  let main_c_12 : IVec S_ 32 := constantI S_ 32 0#32
  let main_v40 : IVec S_ 32 := (fun x v => Host.reduce IntOp.addi x v reducesTo_S64x64_S_d0_1 h_S_) main_v39 main_c_12
  let main_v41 : FVec F S_ .f32 := sitofp .f32 main_v40
  let main_v42 : FVec F S_ .f32 := Host.divf main_v38 main_v41
  let main_v43 : IVec S320000 32 := fn_argmax (F := F) main_arg1
  let main_c_13 : IVec S_ 32 := constantI S_ 32 0#32
  let main_v44 : IVec S320000 32 := broadcastInDim S320000 ![] bcast_S_S320000 main_c_13
  let main_v45 : IVec S320000 1 := cmpi .slt main_v43 main_v44
  let main_c_14 : IVec S_ 32 := constantI S_ 32 64#32
  let main_v46 : IVec S320000 32 := broadcastInDim S320000 ![] bcast_S_S320000 main_c_14
  let main_v47 : IVec S320000 32 := addi main_v43 main_v46
  let main_v48 : IVec S320000 32 := select main_v45 main_v47 main_v43
  let main_v49 : IVec S320000x1 32 := broadcastInDim S320000x1 ![0] bcast_S320000_S320000x1_0 main_v48
  let main_v50 : FVec F S320000x128 .f32 := (fun x i => Host.gather gather_S64x128_S320000x1_S320000x128_1_0_n_n_0_1_1128 x i) main_arg2 main_v49
  let main_v51 : FVec F S320000x128 .f32 := subf main_arg0 main_v50
  let main_v52 : FVec F S320000x128 .f32 := mulf main_v51 main_v51
  let main_cst_15 : FVec F S_ .f32 := constant S_ .f32 0x00000000#32
  let main_v53 : FVec F S320000 .f32 := (fun x v => Host.reduceAdd x v reducesTo_S320000x128_S320000_d1 h_S_) main_v52 main_cst_15
  fn_part3 (F := F) main_arg3 main_arg6 main_v2 main_v10 main_v42 main_v43 main_v53

def fn_part1 {F : FTy → Type} [FloatOps F] (main_arg0 : FVec F S320000x128 .f32) (main_arg1 : FVec F S320000x64 .f32) (main_arg2 : FVec F S64x128 .f32) (main_arg3 : FVec F S_ .f32) (main_arg6 : FVec F S_ .f32) (main_v2 : FVec F S64 .f32) (main_v10 : FVec F S_ .f32) (main_v17 : FVec F S64x64 .f32) : IVec S_ 1 × IVec S_ 1 × IVec S_ 1 × IVec S_ 1 :=
  let main_v18 : FVec F S128x64 .f32 := (transpose S128x64 [1, 0] · transposes_S64x128_S128x64_1_0) main_arg2
  let main_v19 : FVec F S64x64 .f32 := (fun l r => Host.dotGeneral dot_S64x128_S128x64_S64x64_1_0_0_1_n_n none l r) main_arg2 main_v18
  let main_cst_5 : FVec F S_ .f32 := constant S_ .f32 0x40000000#32
  let main_v20 : FVec F S64x64 .f32 := broadcastInDim S64x64 ![] bcast_S_S64x64 main_cst_5
  let main_v21 : FVec F S64x64 .f32 := mulf main_v20 main_v19
  let main_v22 : FVec F S64x64 .f32 := subf main_v17 main_v21
  let main_cst_6 : FVec F S_ .f32 := constant S_ .f32 0x00000000#32
  let main_v23 : FVec F S64x64 .f32 := broadcastInDim S64x64 ![] bcast_S_S64x64 main_cst_6
  let main_v24 : FVec F S64x64 .f32 := maximumf main_v22 main_v23
  let main_cst_7 : FVec F S_ .f32 := constant S_ .f32 0x00000000#32
  let main_v25 : FVec F S64x64 .f32 := broadcastInDim S64x64 ![] bcast_S_S64x64 main_cst_7
  let main_v26 : IVec S64x64 1 := cmpf .ogt main_v24 main_v25
  let main_cst_8 : FVec F S_ .f32 := constant S_ .f32 0x3F800000#32
  let main_v27 : FVec F S64x64 .f32 := fn_where (F := F) main_v26 main_v24 main_cst_8
  let main_v28 : FVec F S64x64 .f32 := Host.sqrt main_v27
  let main_cst_9 : FVec F S_ .f32 := constant S_ .f32 0x00000000#32
  let main_v29 : FVec F S64x64 .f32 := fn_where (F := F) main_v26 main_v28 main_cst_9
  let main_v30 : IVec S64x64 32 := iotaInDim S64x64 32 0
  let main_v31 : IVec S64x64 32 := iotaInDim S64x64 32 1
  let main_c : IVec S_ 32 := constantI S_ 32 0#32
  let main_v32 : IVec S64x64 32 := broadcastInDim S64x64 ![] bcast_S_S64x64 main_c
  let main_v33 : IVec S64x64 32 := addi main_v30 main_v32
  let main_v34 : IVec S64x64 1 := cmpi .eq main_v33 main_v31
  let main_v35 : IVec S64x64 1 := noti main_v34
  fn_part2 (F := F) main_arg0 main_arg1 main_arg2 main_arg3 main_arg6 main_v2 main_v10 main_v29 main_v35

def fn {F : FTy → Type} [FloatOps F] (main_arg0 : FVec F S320000x128 .f32) (main_arg1 : FVec F S320000x64 .f32) (main_arg2 : FVec F S64x128 .f32) (main_arg3 : FVec F S_ .f32) (main_arg4 : FVec F S_ .f32) (main_arg5 : FVec F S_ .f32) (main_arg6 : FVec F S_ .f32) (main_arg7 : FVec F S_ .f32) : IVec S_ 1 × IVec S_ 1 × IVec S_ 1 × IVec S_ 1 :=
  let main_cst : FVec F S_ .f32 := constant S_ .f32 0x00000000#32
  let main_v0 : FVec F S64 .f32 := (fun x v => Host.reduceAdd x v reducesTo_S320000x64_S64_d0 h_S_) main_arg1 main_cst
  let main_cst_0 : FVec F S_ .f32 := constant S_ .f32 0x489C4000#32
  let main_v1 : FVec F S64 .f32 := broadcastInDim S64 ![] bcast_S_S64 main_cst_0
  let main_v2 : FVec F S64 .f32 := Host.divf main_v0 main_v1
  let main_cst_1 : FVec F S_ .f32 := constant S_ .f32 0x3C800000#32
  let main_v3 : FVec F S64 .f32 := broadcastInDim S64 ![] bcast_S_S64 main_cst_1
  let main_cst_2 : FVec F S_ .f32 := constant S_ .f32 0x322BCC77#32
  let main_v4 : FVec F S64 .f32 := broadcastInDim S64 ![] bcast_S_S64 main_cst_2
  let main_v5 : FVec F S64 .f32 := addf main_v2 main_v4
  let main_v6 : FVec F S64 .f32 := Host.log main_v5
  let main_v7 : FVec F S64 .f32 := Host.log main_v3
  let main_v8 : FVec F S64 .f32 := subf main_v7 main_v6
  let main_v9 : FVec F S64 .f32 := mulf main_v3 main_v8
  let main_cst_3 : FVec F S_ .f32 := constant S_ .f32 0x00000000#32
  let main_v10 : FVec F S_ .f32 := (fun x v => Host.reduceAdd x v reducesTo_S64_S_d0 h_S_) main_v9 main_cst_3
  let main_v11 : FVec F S64x128 .f32 := mulf main_arg2 main_arg2
  let main_cst_4 : FVec F S_ .f32 := constant S_ .f32 0x00000000#32
  let main_v12 : FVec F S64 .f32 := (fun x v => Host.reduceAdd x v reducesTo_S64x128_S64_d1 h_S_) main_v11 main_cst_4
  let main_v13 : FVec F S64x1 .f32 := broadcastInDim S64x1 ![0] bcast_S64_S64x1_0 main_v12
  let main_v14 : FVec F S1x64 .f32 := broadcastInDim S1x64 ![1] bcast_S64_S1x64_1 main_v12
  let main_v15 : FVec F S64x64 .f32 := broadcastInDim S64x64 ![0, 1] bcast_S64x1_S64x64_0_1 main_v13
  let main_v16 : FVec F S64x64 .f32 := broadcastInDim S64x64 ![0, 1] bcast_S1x64_S64x64_0_1 main_v14
  let main_v17 : FVec F S64x64 .f32 := addf main_v15 main_v16
  fn_part1 (F := F) main_arg0 main_arg1 main_arg2 main_arg3 main_arg6 main_v2 main_v10 main_v17
-- ==== Pre_finite.lean ====
abbrev S320000x128 : Shape := ⟨2, ![320000, 128]⟩
abbrev S320000x64 : Shape := ⟨2, ![320000, 64]⟩
abbrev S64x128 : Shape := ⟨2, ![64, 128]⟩
abbrev S_ : Shape := ⟨0, ![]⟩

class Facts : Prop where
  bcast_S_S320000x128 : S_.BroadcastsInDim S320000x128 (![] : Fin 0 → Fin S320000x128.rank)
  bcast_S_S64x128 : S_.BroadcastsInDim S64x128 (![] : Fin 0 → Fin S64x128.rank)

variable [Facts]

def fn {F : FTy → Type} [FloatOps F] (main_arg0 : FVec F S320000x128 .f32) (main_arg1 : FVec F S320000x64 .f32) (main_arg2 : FVec F S64x128 .f32) : IVec S320000x128 1 × IVec S64x128 1 :=
  let main_v0 : FVec F S320000x128 .f32 := Host.absf main_arg0
  let main_cst : FVec F S_ .f32 := constant S_ .f32 0x7F800000#32
  let main_v1 : FVec F S320000x128 .f32 := broadcastInDim S320000x128 ![] bcast_S_S320000x128 main_cst
  let main_v2 : IVec S320000x128 1 := cmpf .olt main_v0 main_v1
  let main_v3 : FVec F S64x128 .f32 := Host.absf main_arg2
  let main_cst_0 : FVec F S_ .f32 := constant S_ .f32 0x7F800000#32
  let main_v4 : FVec F S64x128 .f32 := broadcastInDim S64x128 ![] bcast_S_S64x128 main_cst_0
  let main_v5 : IVec S64x128 1 := cmpf .olt main_v3 main_v4
  (main_v2, main_v5)
-- ==== Kernel.lean ====
abbrev S320000x128 : Shape := ⟨2, ![320000, 128]⟩
abbrev S320000x64 : Shape := ⟨2, ![320000, 64]⟩
abbrev S64x128 : Shape := ⟨2, ![64, 128]⟩
abbrev S_ : Shape := ⟨0, ![]⟩
abbrev S128x64 : Shape := ⟨2, ![128, 64]⟩
abbrev S256x64 : Shape := ⟨2, ![256, 64]⟩
abbrev S1x8 : Shape := ⟨2, ![1, 8]⟩
abbrev S16000x128 : Shape := ⟨2, ![16000, 128]⟩
abbrev S16000x64 : Shape := ⟨2, ![16000, 64]⟩
abbrev S1x64 : Shape := ⟨2, ![1, 64]⟩
abbrev S64 : Shape := ⟨1, ![64]⟩
abbrev S16000 : Shape := ⟨1, ![16000]⟩
abbrev S16000x1 : Shape := ⟨2, ![16000, 1]⟩
abbrev S128x1 : Shape := ⟨2, ![128, 1]⟩
abbrev S1x128 : Shape := ⟨2, ![1, 128]⟩
abbrev S16000x256 : Shape := ⟨2, ![16000, 256]⟩
abbrev S1 : Shape := ⟨1, ![1]⟩
abbrev S1x1 : Shape := ⟨2, ![1, 1]⟩
abbrev S64x64 : Shape := ⟨2, ![64, 64]⟩
abbrev S64x1 : Shape := ⟨2, ![64, 1]⟩
abbrev S1x64x64 : Shape := ⟨3, ![1, 64, 64]⟩
abbrev S1x1x1 : Shape := ⟨3, ![1, 1, 1]⟩
abbrev S8 : Shape := ⟨1, ![8]⟩

abbrev nBuf : Space → Nat
  | .hbm => 22
  | .vmem => 10
  | .smem => 0
  | _ => 0

abbrev bufTy : (tb : Table) → Fin (tcTables nBuf tb) → BufTy
  | .hbm, ⟨0, _⟩ => ⟨S320000x128, .f32⟩
  | .hbm, ⟨1, _⟩ => ⟨S320000x64, .f32⟩
  | .hbm, ⟨2, _⟩ => ⟨S64x128, .f32⟩
  | .hbm, ⟨3, _⟩ => ⟨S_, .f32⟩
  | .hbm, ⟨4, _⟩ => ⟨S128x64, .f32⟩
  | .hbm, ⟨5, _⟩ => ⟨S128x64, .f32⟩
  | .hbm, ⟨6, _⟩ => ⟨S_, .f32⟩
  | .hbm, ⟨7, _⟩ => ⟨S128x64, .f32⟩
  | .hbm, ⟨8, _⟩ => ⟨S128x64, .f32⟩
  | .hbm, ⟨9, _⟩ => ⟨S256x64, .f32⟩
  | .hbm, ⟨10, _⟩ => ⟨S1x8, .f32⟩
  | .hbm, ⟨11, _⟩ => ⟨S8, .f32⟩
  | .hbm, ⟨12, _⟩ => ⟨S1, .f32⟩
  | .hbm, ⟨13, _⟩ => ⟨S_, .f32⟩
  | .hbm, ⟨14, _⟩ => ⟨S1, .f32⟩
  | .hbm, ⟨15, _⟩ => ⟨S_, .f32⟩
  | .hbm, ⟨16, _⟩ => ⟨S1, .f32⟩
  | .hbm, ⟨17, _⟩ => ⟨S_, .f32⟩
  | .hbm, ⟨18, _⟩ => ⟨S1, .f32⟩
  | .hbm, ⟨19, _⟩ => ⟨S_, .f32⟩
  | .hbm, ⟨20, _⟩ => ⟨S1, .f32⟩
  | .hbm, ⟨21, _⟩ => ⟨S_, .f32⟩
  | .local _ .vmem, ⟨0, _⟩ => ⟨S16000x128, .f32⟩
  | .local _ .vmem, ⟨1, _⟩ => ⟨S16000x128, .f32⟩
  | .local _ .vmem, ⟨2, _⟩ => ⟨S16000x64, .f32⟩
  | .local _ .vmem, ⟨3, _⟩ => ⟨S16000x64, .f32⟩
  | .local _ .vmem, ⟨4, _⟩ => ⟨S64x128, .f32⟩
  | .local _ .vmem, ⟨5, _⟩ => ⟨S256x64, .f32⟩
  | .local _ .vmem, ⟨6, _⟩ => ⟨S1x8, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v60 : BitVec 1 := Scalar.cmpi .eq arg0 c19_i32
  let v61 : BitVec 32 := Scalar.extui v60
  let c0_i32_33 : BitVec 32 := 0#32
  let v62 : BitVec 1 := Scalar.cmpi .ne v61 c0_i32_33
  v62

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S320000x128 : Shape := ⟨2, ![320000, 128]⟩
abbrev S320000x64 : Shape := ⟨2, ![320000, 64]⟩
abbrev S64x128 : Shape := ⟨2, ![64, 128]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S128x64 : Shape := ⟨2, ![128, 64]⟩
abbrev S320000 : Shape := ⟨1, ![320000]⟩
abbrev S320000x1 : Shape := ⟨2, ![320000, 1]⟩
abbrev S1 : Shape := ⟨1, ![1]⟩

abbrev nBuf : Space → Nat
  | .hbm => 162
  | .vmem => 0
  | .smem => 0
  | _ => 0

abbrev hbmTy0_0 (i : Nat) : BufTy := match i % 128 with
  | 0 => ⟨S320000x128, .f32⟩
  | 1 => ⟨S320000x64, .f32⟩
  | 2 => ⟨S64x128, .f32⟩
  | 3 => ⟨S_, .f32⟩
  | 4 => ⟨S64, .f32⟩
  | 5 => ⟨S_, .f32⟩
  | 6 => ⟨S64, .f32⟩
  | 7 => ⟨S64, .f32⟩
  | 8 => ⟨S_, .f32⟩
  | 9 => ⟨S64, .f32⟩
  | 10 => ⟨S_, .f32⟩
  | 11 => ⟨S64, .f32⟩
  | 12 => ⟨S64, .f32⟩
  | 13 => ⟨S64, .f32⟩
  | 14 => ⟨S64, .f32⟩
  | 15 => ⟨S64, .f32⟩
  | 16 => ⟨S64, .f32⟩
  | 17 => ⟨S_, .f32⟩
  | 18 => ⟨S_, .f32⟩
  | 19 => ⟨S64x128, .f32⟩
  | 20 => ⟨S_, .f32⟩
  | 21 => ⟨S64, .f32⟩
  | 22 => ⟨S64x1, .f32⟩
  | 23 => ⟨S1x64, .f32⟩
  | 24 => ⟨S64x64, .f32⟩
  | 25 => ⟨S64x64, .f32⟩
  | 26 => ⟨S64x64, .f32⟩
  | 27 => ⟨S128x64, .f32⟩
  | 28 => ⟨S64x64, .f32⟩
  | 29 => ⟨S_, .f32⟩
  | 30 => ⟨S64x64, .f32⟩
  | 31 => ⟨S64x64, .f32⟩
  | 32 => ⟨S64x64, .f32⟩
  | 33 => ⟨S_, .f32⟩
  | 34 => ⟨S64x64, .f32⟩
  | 35 => ⟨S64x64, .f32⟩
  | 36 => ⟨S_, .f32⟩
  | 37 => ⟨S64x64, .f32⟩
  | 38 => ⟨S64x64, .i1⟩
  | 39 => ⟨S_, .f32⟩
  | 40 => ⟨S_, .f32⟩
  | 41 => ⟨S64x64, .f32⟩
  | 42 => ⟨S64x64, .f32⟩
  | 43 => ⟨S64x64, .f32⟩
  | 44 => ⟨S_, .f32⟩
  | 45 => ⟨S_, .f32⟩
  | 46 => ⟨S64x64, .f32⟩
  | 47 => ⟨S64x64, .f32⟩
  | 48 => ⟨S64x64, .i32⟩
  | 49 => ⟨S64x64, .i32⟩
  | 50 => ⟨S_, .i32⟩
  | 51 => ⟨S64x64, .i32⟩
  | 52 => ⟨S64x64, .i32⟩
  | 53 => ⟨S64x64, .i1⟩
  | 54 => ⟨S64x64, .i1⟩
  | 55 => ⟨S_, .f32⟩
  | 56 => ⟨S_, .f32⟩
  | 57 => ⟨S64x64, .f32⟩
  | 58 => ⟨S64x64, .f32⟩
  | 59 => ⟨S_, .f32⟩
  | 60 => ⟨S_, .f32⟩
  | 61 => ⟨S_, .f32⟩
  | 62 => ⟨S64x64, .i32⟩
  | 63 => ⟨S_, .i32⟩
  | 64 => ⟨S_, .i32⟩
  | 65 => ⟨S_, .f32⟩
  | 66 => ⟨S_, .f32⟩
  | 67 => ⟨S320000x64, .i32⟩
  | 68 => ⟨S_, .f32⟩
  | 69 => ⟨S_, .i32⟩
  | 70 => ⟨S320000, .f32⟩
  | 71 => ⟨S320000, .i32⟩
  | 72 => ⟨S_, .i32⟩
  | 73 => ⟨S320000, .i32⟩
  | 74 => ⟨S320000, .i1⟩
  | 75 => ⟨S_, .i32⟩
  | 76 => ⟨S320000, .i32⟩
  | 77 => ⟨S320000, .i32⟩
  | 78 => ⟨S320000, .i32⟩
  | 79 => ⟨S320000x1, .i32⟩
  | 80 => ⟨S320000x128, .f32⟩
  | 81 => ⟨S320000x128, .f32⟩
  | 82 => ⟨S320000x128, .f32⟩
  | 83 => ⟨S_, .f32⟩
  | 84 => ⟨S320000, .f32⟩
  | 85 => ⟨S_, .f32⟩
  | 86 => ⟨S320000, .f32⟩
  | 87 => ⟨S320000, .i1⟩
  | 88 => ⟨S_, .f32⟩
  | 89 => ⟨S_, .f32⟩
  | 90 => ⟨S320000, .f32⟩
  | 91 => ⟨S320000, .f32⟩
  | 92 => ⟨S320000, .f32⟩
  | 93 => ⟨S_, .f32⟩
  | 94 => ⟨S_, .f32⟩
  | 95 => ⟨S320000, .f32⟩
  | 96 => ⟨S320000, .f32⟩
  | 97 => ⟨S_, .f32⟩
  | 98 => ⟨S64, .f32⟩
  | 99 => ⟨S320000x1, .i32⟩
  | 100 => ⟨S64, .f32⟩
  | 101 => ⟨S_, .f32⟩
  | 102 => ⟨S320000, .f32⟩
  | 103 => ⟨S_, .f32⟩
  | 104 => ⟨S64, .f32⟩
  | 105 => ⟨S320000x1, .i32⟩
  | 106 => ⟨S64, .f32⟩
  | 107 => ⟨S_, .f32⟩
  | 108 => ⟨S64, .f32⟩
  | 109 => ⟨S64, .i1⟩
  | 110 => ⟨S_, .f32⟩
  | 111 => ⟨S_, .f32⟩
  | 112 => ⟨S64, .f32⟩
  | 113 => ⟨S64, .f32⟩
  | 114 => ⟨S64, .f32⟩
  | 115 => ⟨S64, .f32⟩
  | 116 => ⟨S_, .f32⟩
  | 117 => ⟨S_, .f32⟩
  | 118 => ⟨S_, .f32⟩
  | 119 => ⟨S_, .i1⟩
  | 120 => ⟨S_, .f32⟩
  | 121 => ⟨S_, .f32⟩
  | 122 => ⟨S64, .f32⟩
  | 123 => ⟨S64, .f32⟩
  | 124 => ⟨S_, .f32⟩
  | 125 => ⟨S_, .f32⟩
  | 126 => ⟨S_, .f32⟩
  | 127 => ⟨S_, .f32⟩
  | _ => ⟨S320000x128, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .i32⟩
  | 13 => ⟨S_, .f32⟩
  | 14 => ⟨S_, .f32⟩
  | 15 => ⟨S1, .f32⟩
  | 16 => ⟨S_, .f32⟩
  | 17 => ⟨S1, .f32⟩
  | 18 => ⟨S1, .f32⟩
  | 19 => ⟨S64, .f32⟩
  | 20 => ⟨S64, .f32⟩
  | 21 => ⟨S64, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .i1⟩
  | 30 => ⟨S_, .f32⟩
  | 31 => ⟨S_, .f32⟩
  | 32 => ⟨S_, .f32⟩
  | 33 => ⟨S_, .f32⟩
  | _ => ⟨S320000x128, .f32⟩

abbrev hbmTy (i : Nat) : BufTy := match i / 128 with
  | 0 => hbmTy0_0 i
  | 1 => hbmTy0_1 i
  | _ => ⟨S320000x128, .f32⟩

abbrev bufTy : (tb : Table) → Fin (tcTables nBuf tb) → BufTy
  | .hbm, ⟨i, _⟩ => hbmTy i
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_cst_8 : Ref sig .tc := ⟨.hbm, 39, rfl⟩
abbrev main_call0_v0 : Ref sig .tc := ⟨.hbm, 40, rfl⟩
abbrev main_call0_v1 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_call1_v0 : Ref sig .tc := ⟨.hbm, 45, rfl⟩
abbrev main_call1_v1 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_10 : Ref sig .tc := ⟨.hbm, 55, rfl⟩
abbrev main_call2_v0 : Ref sig .tc := ⟨.hbm, 56, rfl⟩
abbrev main_call2_v1 : Ref sig .tc := ⟨.hbm, 57, rfl⟩
abbrev main_v36 : Ref sig .tc := ⟨.hbm, 58, rfl⟩
abbrev main_cst_11 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_12 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_call3_v0 : Ref sig .tc := ⟨.hbm, 67, rfl⟩
abbrev main_call3_cst : Ref sig .tc := ⟨.hbm, 68, rfl⟩
abbrev main_call3_c : Ref sig .tc := ⟨.hbm, 69, rfl⟩
abbrev main_call3_v1_0 : Ref sig .tc := ⟨.hbm, 70, rfl⟩
abbrev main_v43 : Ref sig .tc := ⟨.hbm, 71, rfl⟩
abbrev main_c_13 : Ref sig .tc := ⟨.hbm, 72, rfl⟩
abbrev main_v44 : Ref sig .tc := ⟨.hbm, 73, rfl⟩
abbrev main_v45 : Ref sig .tc := ⟨.hbm, 74, rfl⟩
abbrev main_c_14 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_15 : Ref sig .tc := ⟨.hbm, 83, rfl⟩
abbrev main_v53 : Ref sig .tc := ⟨.hbm, 84, rfl⟩
abbrev main_cst_16 : Ref sig .tc := ⟨.hbm, 85, rfl⟩
abbrev main_v54 : Ref sig .tc := ⟨.hbm, 86, rfl⟩
abbrev main_v55 : Ref sig .tc := ⟨.hbm, 87, rfl⟩
abbrev main_cst_17 : Ref sig .tc := ⟨.hbm, 88, rfl⟩
abbrev main_call4_v0 : Ref sig .tc := ⟨.hbm, 89, rfl⟩
abbrev main_call4_v1 : Ref sig .tc := ⟨.hbm, 90, rfl⟩
abbrev main_v56 : Ref sig .tc := ⟨.hbm, 91, rfl⟩
abbrev main_v57 : Ref sig .tc := ⟨.hbm, 92, rfl⟩
abbrev main_cst_18 : Ref sig .tc := ⟨.hbm, 93, rfl⟩
abbrev main_call5_v0 : Ref sig .tc := ⟨.hbm, 94, rfl⟩
abbrev main_call5_v1 : Ref sig .tc := ⟨.hbm, 95, rfl⟩
abbrev main_v58 : Ref sig .tc := ⟨.hbm, 96, rfl⟩
abbrev main_cst_19 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_cst_20 : Ref sig .tc := ⟨.hbm, 101, rfl⟩
abbrev main_v62 : Ref sig .tc := ⟨.hbm, 102, rfl⟩
abbrev main_cst_21 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_cst_22 : Ref sig .tc := ⟨.hbm, 107, rfl⟩
abbrev main_v66 : Ref sig .tc := ⟨.hbm, 108, rfl⟩
abbrev main_v67 : Ref sig .tc := ⟨.hbm, 109, rfl⟩
abbrev main_cst_23 : Ref sig .tc := ⟨.hbm, 110, rfl⟩
abbrev main_call6_v0 : Ref sig .tc := ⟨.hbm, 111, rfl⟩
abbrev main_call6_v1 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_cst_24 : Ref sig .tc := ⟨.hbm, 116, rfl⟩
abbrev main_v71 : Ref sig .tc := ⟨.hbm, 117, rfl⟩
abbrev main_cst_25 : Ref sig .tc := ⟨.hbm, 118, rfl⟩
abbrev main_v72 : Ref sig .tc := ⟨.hbm, 119, rfl⟩
abbrev main_cst_26 : Ref sig .tc := ⟨.hbm, 120, rfl⟩
abbrev main_call7_v0 : Ref sig .tc := ⟨.hbm, 121, rfl⟩
abbrev main_call7_v1 : Ref sig .tc := ⟨.hbm, 122, rfl⟩
abbrev main_v73 : Ref sig .tc := ⟨.hbm, 123, rfl⟩
abbrev main_cst_27 : Ref sig .tc := ⟨.hbm, 124, rfl⟩
abbrev main_v74 : Ref sig .tc := ⟨.hbm, 125, rfl⟩
abbrev main_cst_28 : Ref sig .tc := ⟨.hbm, 126, rfl⟩
abbrev main_v75 : Ref sig .tc := ⟨.hbm, 127, rfl⟩
abbrev main_v76 : Ref sig .tc := ⟨.hbm, 128, rfl⟩
abbrev main_cst_29 : Ref sig .tc := ⟨.hbm, 129, rfl⟩
abbrev main_call8_v0 : Ref sig .tc := ⟨.hbm, 130, rfl⟩
abbrev main_v77 : Ref sig .tc := ⟨.hbm, 131, rfl⟩
abbrev main_cst_30 : Ref sig .tc := ⟨.hbm, 132, rfl⟩
abbrev main_v78 : Ref sig .tc := ⟨.hbm, 133, rfl⟩
abbrev main_cst_31 : Ref sig .tc := ⟨.hbm, 134, rfl⟩
abbrev main_v79 : Ref sig .tc := ⟨.hbm, 135, rfl⟩
abbrev main_v80 : Ref sig .tc := ⟨.hbm, 136, rfl⟩
abbrev main_cst_32 : Ref sig .tc := ⟨.hbm, 137, rfl⟩
abbrev main_v81 : Ref sig .tc := ⟨.hbm, 138, rfl⟩
abbrev main_v82 : Ref sig .tc := ⟨.hbm, 139, rfl⟩
abbrev main_c_33 : Ref sig .tc := ⟨.hbm, 140, rfl⟩
abbrev main_call9_call0_cst : Ref sig .tc := ⟨.hbm, 141, rfl⟩
abbrev main_call9_call0_v0 : Ref sig .tc := ⟨.hbm, 142, rfl⟩
abbrev main_call9_call0_v1 : Ref sig .tc := ⟨.hbm, 143, rfl⟩
abbrev main_call9_call0_cst_0 : Ref sig .tc := ⟨.hbm, 144, rfl⟩
abbrev main_call9_call0_v2 : Ref sig .tc := ⟨.hbm, 145, rfl⟩
abbrev main_call9_call0_v3 : Ref sig .tc := ⟨.hbm, 146, rfl⟩
abbrev main_call9_call0_v4 : Ref sig .tc := ⟨.hbm, 147, rfl⟩
abbrev main_call9_call0_v5 : Ref sig .tc := ⟨.hbm, 148, rfl⟩
abbrev main_call9_call0_v6 : Ref sig .tc := ⟨.hbm, 149, rfl⟩
abbrev main_call9_call0_v7 : Ref sig .tc := ⟨.hbm, 150, rfl⟩
abbrev main_call9_call0_cst_1 : Ref sig .tc := ⟨.hbm, 151, rfl⟩
abbrev main_call9_call0_v8 : Ref sig .tc := ⟨.hbm, 152, rfl⟩
abbrev main_call9_call0_cst_2 : Ref sig .tc := ⟨.hbm, 153, rfl⟩
abbrev main_call9_call0_v9 : Ref sig .tc := ⟨.hbm, 154, rfl⟩
abbrev main_call9_call0_v10 : Ref sig .tc := ⟨.hbm, 155, rfl⟩
abbrev main_call9_call0_cst_3 : Ref sig .tc := ⟨.hbm, 156, rfl⟩
abbrev main_call9_call0_v11 : Ref sig .tc := ⟨.hbm, 157, rfl⟩
abbrev main_call9_call0_cst_4 : Ref sig .tc := ⟨.hbm, 158, rfl⟩
abbrev main_call9_call0_call0_v0 : Ref sig .tc := ⟨.hbm, 159, rfl⟩
abbrev main_call9_v0 : Ref sig .tc := ⟨.hbm, 160, rfl⟩
abbrev main_v83 : Ref sig .tc := ⟨.hbm, 161, rfl⟩

abbrev nD : Nat := 1
abbrev τ : Topo := Topo.v7x

variable {F : FTy → Type} [FloatOps F]
-- ==== SmoothedIdeal.lean ====
abbrev S320000x128 : Shape := ⟨2, ![320000, 128]⟩
abbrev S320000x64 : Shape := ⟨2, ![320000, 64]⟩
abbrev S64x128 : Shape := ⟨2, ![64, 128]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S128x64 : Shape := ⟨2, ![128, 64]⟩
abbrev S320000 : Shape := ⟨1, ![320000]⟩
abbrev S320000x1 : Shape := ⟨2, ![320000, 1]⟩
abbrev S1 : Shape := ⟨1, ![1]⟩

abbrev nBuf : Space → Nat
  | .hbm => 155
  | .vmem => 0
  | .smem => 0
  | _ => 0

abbrev hbmTy0_0 (i : Nat) : BufTy := match i % 128 with
  | 0 => ⟨S320000x128, .f32⟩
  | 1 => ⟨S320000x64, .f32⟩
  | 2 => ⟨S64x128, .f32⟩
  | 3 => ⟨S_, .f32⟩
  | 4 => ⟨S64, .f32⟩
  | 5 => ⟨S_, .f32⟩
  | 6 => ⟨S64, .f32⟩
  | 7 => ⟨S64, .f32⟩
  | 8 => ⟨S_, .f32⟩
  | 9 => ⟨S64, .f32⟩
  | 10 => ⟨S_, .f32⟩
  | 11 => ⟨S64, .f32⟩
  | 12 => ⟨S64, .f32⟩
  | 13 => ⟨S64, .f32⟩
  | 14 => ⟨S64, .f32⟩
  | 15 => ⟨S64, .f32⟩
  | 16 => ⟨S64, .f32⟩
  | 17 => ⟨S_, .f32⟩
  | 18 => ⟨S_, .f32⟩
  | 19 => ⟨S64x128, .f32⟩
  | 20 => ⟨S_, .f32⟩
  | 21 => ⟨S64, .f32⟩
  | 22 => ⟨S64x1, .f32⟩
  | 23 => ⟨S1x64, .f32⟩
  | 24 => ⟨S64x64, .f32⟩
  | 25 => ⟨S64x64, .f32⟩
  | 26 => ⟨S64x64, .f32⟩
  | 27 => ⟨S128x64, .f32⟩
  | 28 => ⟨S64x64, .f32⟩
  | 29 => ⟨S_, .f32⟩
  | 30 => ⟨S64x64, .f32⟩
  | 31 => ⟨S64x64, .f32⟩
  | 32 => ⟨S64x64, .f32⟩
  | 33 => ⟨S_, .f32⟩
  | 34 => ⟨S64x64, .f32⟩
  | 35 => ⟨S64x64, .f32⟩
  | 36 => ⟨S_, .f32⟩
  | 37 => ⟨S64x64, .f32⟩
  | 38 => ⟨S64x64, .i1⟩
  | 39 => ⟨S_, .f32⟩
  | 40 => ⟨S_, .f32⟩
  | 41 => ⟨S64x64, .f32⟩
  | 42 => ⟨S64x64, .f32⟩
  | 43 => ⟨S64x64, .f32⟩
  | 44 => ⟨S_, .f32⟩
  | 45 => ⟨S_, .f32⟩
  | 46 => ⟨S64x64, .f32⟩
  | 47 => ⟨S64x64, .f32⟩
  | 48 => ⟨S64x64, .i32⟩
  | 49 => ⟨S64x64, .i32⟩
  | 50 => ⟨S_, .i32⟩
  | 51 => ⟨S64x64, .i32⟩
  | 52 => ⟨S64x64, .i32⟩
  | 53 => ⟨S64x64, .i1⟩
  | 54 => ⟨S64x64, .i1⟩
  | 55 => ⟨S_, .f32⟩
  | 56 => ⟨S_, .f32⟩
  | 57 => ⟨S64x64, .f32⟩
  | 58 => ⟨S64x64, .f32⟩
  | 59 => ⟨S_, .f32⟩
  | 60 => ⟨S_, .f32⟩
  | 61 => ⟨S_, .f32⟩
  | 62 => ⟨S64x64, .i32⟩
  | 63 => ⟨S_, .i32⟩
  | 64 => ⟨S_, .i32⟩
  | 65 => ⟨S_, .f32⟩
  | 66 => ⟨S_, .f32⟩
  | 67 => ⟨S320000x64, .i32⟩
  | 68 => ⟨S_, .f32⟩
  | 69 => ⟨S_, .i32⟩
  | 70 => ⟨S320000, .f32⟩
  | 71 => ⟨S320000, .i32⟩
  | 72 => ⟨S_, .i32⟩
  | 73 => ⟨S320000, .i32⟩
  | 74 => ⟨S320000, .i1⟩
  | 75 => ⟨S_, .i32⟩
  | 76 => ⟨S320000, .i32⟩
  | 77 => ⟨S320000, .i32⟩
  | 78 => ⟨S320000, .i32⟩
  | 79 => ⟨S320000x1, .i32⟩
  | 80 => ⟨S320000x128, .f32⟩
  | 81 => ⟨S320000x128, .f32⟩
  | 82 => ⟨S320000x128, .f32⟩
  | 83 => ⟨S_, .f32⟩
  | 84 => ⟨S320000, .f32⟩
  | 85 => ⟨S_, .f32⟩
  | 86 => ⟨S320000, .f32⟩
  | 87 => ⟨S320000, .f32⟩
  | 88 => ⟨S320000, .f32⟩
  | 89 => ⟨S320000, .f32⟩
  | 90 => ⟨S_, .f32⟩
  | 91 => ⟨S64, .f32⟩
  | 92 => ⟨S320000x1, .i32⟩
  | 93 => ⟨S64, .f32⟩
  | 94 => ⟨S_, .f32⟩
  | 95 => ⟨S320000, .f32⟩
  | 96 => ⟨S_, .f32⟩
  | 97 => ⟨S64, .f32⟩
  | 98 => ⟨S320000x1, .i32⟩
  | 99 => ⟨S64, .f32⟩
  | 100 => ⟨S_, .f32⟩
  | 101 => ⟨S64, .f32⟩
  | 102 => ⟨S64, .i1⟩
  | 103 => ⟨S_, .f32⟩
  | 104 => ⟨S_, .f32⟩
  | 105 => ⟨S64, .f32⟩
  | 106 => ⟨S64, .f32⟩
  | 107 => ⟨S64, .f32⟩
  | 108 => ⟨S64, .f32⟩
  | 109 => ⟨S_, .f32⟩
  | 110 => ⟨S_, .f32⟩
  | 111 => ⟨S_, .f32⟩
  | 112 => ⟨S_, .i1⟩
  | 113 => ⟨S_, .f32⟩
  | 114 => ⟨S_, .f32⟩
  | 115 => ⟨S64, .f32⟩
  | 116 => ⟨S64, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S320000x128, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .i32⟩
  | 6 => ⟨S_, .f32⟩
  | 7 => ⟨S_, .f32⟩
  | 8 => ⟨S1, .f32⟩
  | 9 => ⟨S_, .f32⟩
  | 10 => ⟨S1, .f32⟩
  | 11 => ⟨S1, .f32⟩
  | 12 => ⟨S64, .f32⟩
  | 13 => ⟨S64, .f32⟩
  | 14 => ⟨S64, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .i1⟩
  | 23 => ⟨S_, .f32⟩
  | 24 => ⟨S_, .f32⟩
  | 25 => ⟨S_, .f32⟩
  | 26 => ⟨S_, .f32⟩
  | _ => ⟨S320000x128, .f32⟩

abbrev hbmTy (i : Nat) : BufTy := match i / 128 with
  | 0 => hbmTy0_0 i
  | 1 => hbmTy0_1 i
  | _ => ⟨S320000x128, .f32⟩

abbrev bufTy : (tb : Table) → Fin (tcTables nBuf tb) → BufTy
  | .hbm, ⟨i, _⟩ => hbmTy i
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_cst_8 : Ref sig .tc := ⟨.hbm, 39, rfl⟩
abbrev main_call0_v0 : Ref sig .tc := ⟨.hbm, 40, rfl⟩
abbrev main_call0_v1 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_call1_v0 : Ref sig .tc := ⟨.hbm, 45, rfl⟩
abbrev main_call1_v1 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_10 : Ref sig .tc := ⟨.hbm, 55, rfl⟩
abbrev main_call2_v0 : Ref sig .tc := ⟨.hbm, 56, rfl⟩
abbrev main_call2_v1 : Ref sig .tc := ⟨.hbm, 57, rfl⟩
abbrev main_v36 : Ref sig .tc := ⟨.hbm, 58, rfl⟩
abbrev main_cst_11 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_12 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_call3_v0 : Ref sig .tc := ⟨.hbm, 67, rfl⟩
abbrev main_call3_cst : Ref sig .tc := ⟨.hbm, 68, rfl⟩
abbrev main_call3_c : Ref sig .tc := ⟨.hbm, 69, rfl⟩
abbrev main_call3_v1_0 : Ref sig .tc := ⟨.hbm, 70, rfl⟩
abbrev main_v43 : Ref sig .tc := ⟨.hbm, 71, rfl⟩
abbrev main_c_13 : Ref sig .tc := ⟨.hbm, 72, rfl⟩
abbrev main_v44 : Ref sig .tc := ⟨.hbm, 73, rfl⟩
abbrev main_v45 : Ref sig .tc := ⟨.hbm, 74, rfl⟩
abbrev main_c_14 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_15 : Ref sig .tc := ⟨.hbm, 83, rfl⟩
abbrev main_v53 : Ref sig .tc := ⟨.hbm, 84, rfl⟩
abbrev main_cst_16 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_17 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_18 : Ref sig .tc := ⟨.hbm, 94, rfl⟩
abbrev main_v61 : Ref sig .tc := ⟨.hbm, 95, rfl⟩
abbrev main_cst_19 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_20 : Ref sig .tc := ⟨.hbm, 100, rfl⟩
abbrev main_v65 : Ref sig .tc := ⟨.hbm, 101, rfl⟩
abbrev main_v66 : Ref sig .tc := ⟨.hbm, 102, rfl⟩
abbrev main_cst_21 : Ref sig .tc := ⟨.hbm, 103, rfl⟩
abbrev main_call4_v0 : Ref sig .tc := ⟨.hbm, 104, rfl⟩
abbrev main_call4_v1 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_22 : Ref sig .tc := ⟨.hbm, 109, rfl⟩
abbrev main_v70 : Ref sig .tc := ⟨.hbm, 110, rfl⟩
abbrev main_cst_23 : Ref sig .tc := ⟨.hbm, 111, rfl⟩
abbrev main_v71 : Ref sig .tc := ⟨.hbm, 112, rfl⟩
abbrev main_cst_24 : Ref sig .tc := ⟨.hbm, 113, rfl⟩
abbrev main_call5_v0 : Ref sig .tc := ⟨.hbm, 114, rfl⟩
abbrev main_call5_v1 : Ref sig .tc := ⟨.hbm, 115, rfl⟩
abbrev main_v72 : Ref sig .tc := ⟨.hbm, 116, rfl⟩
abbrev main_cst_25 : Ref sig .tc := ⟨.hbm, 117, rfl⟩
abbrev main_v73 : Ref sig .tc := ⟨.hbm, 118, rfl⟩
abbrev main_cst_26 : Ref sig .tc := ⟨.hbm, 119, rfl⟩
abbrev main_v74 : Ref sig .tc := ⟨.hbm, 120, rfl⟩
abbrev main_v75 : Ref sig .tc := ⟨.hbm, 121, rfl⟩
abbrev main_cst_27 : Ref sig .tc := ⟨.hbm, 122, rfl⟩
abbrev main_call6_v0 : Ref sig .tc := ⟨.hbm, 123, rfl⟩
abbrev main_v76 : Ref sig .tc := ⟨.hbm, 124, rfl⟩
abbrev main_cst_28 : Ref sig .tc := ⟨.hbm, 125, rfl⟩
abbrev main_v77 : Ref sig .tc := ⟨.hbm, 126, rfl⟩
abbrev main_cst_29 : Ref sig .tc := ⟨.hbm, 127, rfl⟩
abbrev main_v78 : Ref sig .tc := ⟨.hbm, 128, rfl⟩
abbrev main_v79 : Ref sig .tc := ⟨.hbm, 129, rfl⟩
abbrev main_cst_30 : Ref sig .tc := ⟨.hbm, 130, rfl⟩
abbrev main_v80 : Ref sig .tc := ⟨.hbm, 131, rfl⟩
abbrev main_v81 : Ref sig .tc := ⟨.hbm, 132, rfl⟩
abbrev main_c_31 : Ref sig .tc := ⟨.hbm, 133, rfl⟩
abbrev main_call7_call0_cst : Ref sig .tc := ⟨.hbm, 134, rfl⟩
abbrev main_call7_call0_v0 : Ref sig .tc := ⟨.hbm, 135, rfl⟩
abbrev main_call7_call0_v1 : Ref sig .tc := ⟨.hbm, 136, rfl⟩
abbrev main_call7_call0_cst_0 : Ref sig .tc := ⟨.hbm, 137, rfl⟩
abbrev main_call7_call0_v2 : Ref sig .tc := ⟨.hbm, 138, rfl⟩
abbrev main_call7_call0_v3 : Ref sig .tc := ⟨.hbm, 139, rfl⟩
abbrev main_call7_call0_v4 : Ref sig .tc := ⟨.hbm, 140, rfl⟩
abbrev main_call7_call0_v5 : Ref sig .tc := ⟨.hbm, 141, rfl⟩
abbrev main_call7_call0_v6 : Ref sig .tc := ⟨.hbm, 142, rfl⟩
abbrev main_call7_call0_v7 : Ref sig .tc := ⟨.hbm, 143, rfl⟩
abbrev main_call7_call0_cst_1 : Ref sig .tc := ⟨.hbm, 144, rfl⟩
abbrev main_call7_call0_v8 : Ref sig .tc := ⟨.hbm, 145, rfl⟩
abbrev main_call7_call0_cst_2 : Ref sig .tc := ⟨.hbm, 146, rfl⟩
abbrev main_call7_call0_v9 : Ref sig .tc := ⟨.hbm, 147, rfl⟩
abbrev main_call7_call0_v10 : Ref sig .tc := ⟨.hbm, 148, rfl⟩
abbrev main_call7_call0_cst_3 : Ref sig .tc := ⟨.hbm, 149, rfl⟩
abbrev main_call7_call0_v11 : Ref sig .tc := ⟨.hbm, 150, rfl⟩
abbrev main_call7_call0_cst_4 : Ref sig .tc := ⟨.hbm, 151, rfl⟩
abbrev main_call7_call0_call0_v0 : Ref sig .tc := ⟨.hbm, 152, rfl⟩
abbrev main_call7_v0 : Ref sig .tc := ⟨.hbm, 153, rfl⟩
abbrev main_v82 : Ref sig .tc := ⟨.hbm, 154, rfl⟩

abbrev nD : Nat := 1
abbrev τ : Topo := Topo.v7x

variable {F : FTy → Type} [FloatOps F]
-- ==== Proof.Refs.lean ====
/- The two reference programs run to the end on every memory: no operation of theirs faults and none of them holds a semaphore. -/
module

public import proofs.«01_k».proof.Defs
public import proofs.«01_k».proof.Proof.Gen.SmoothedIdeal
public import proofs.«01_k».proof.Proof.Gen.ReferenceIdeal
public import Idealize.ShloMosaic.Lib.Pipeline.ValueKit
public import Idealize.ShloMosaic.Lib.Quiescent

@[expose] public section

set_option maxRecDepth 16384

noncomputable section

namespace Cert.Refs

open Idealize.ShloMosaic Idealize.SL.Sem

set_option maxHeartbeats 1600000 in
/-- The smoothed reference terminates from every memory and leaves every semaphore at zero. -/
theorem smoothed_rests : Cert.quiescent_SmoothedIdeal := by
  intro m ρ _
  hlo_run
  all_goals first | exact sem_eq_zero_of_no_sems (sig := Cert.SmoothedIdeal.sig) (by decide) _ | exact fun _ => ⟨trivial, trivial, trivial⟩

set_option maxHeartbeats 1600000 in
/-- The reference with the plain square root terminates from every memory and leaves every semaphore at zero. -/
theorem reference_rests : Cert.quiescent_ReferenceIdeal := by
  intro m ρ _
  hlo_run
  all_goals first | exact sem_eq_zero_of_no_sems (sig := Cert.ReferenceIdeal.sig) (by decide) _ | exact fun _ => ⟨trivial, trivial, trivial⟩

end Cert.Refs

end
-- ==== Proof.Spec.lean ====
/- The five losses as functions of extended reals, and the facts about one row's hard assignment that both
   programs use. -/
module

public import Idealize.ShloMosaic.Lib.Pipeline.ValueKit

@[expose] public section

set_option maxRecDepth 16384

noncomputable section

namespace Cert.Spec

open Idealize.ShloMosaic

/-- The points' array. -/
abbrev Points := FVec Ideal ⟨2, ![320000, 128]⟩ .f32
/-- The assignment weights' array. -/
abbrev Weights := FVec Ideal ⟨2, ![320000, 64]⟩ .f32
/-- The cluster centers' array. -/
abbrev Centers := FVec Ideal ⟨2, ![64, 128]⟩ .f32

/-- Some cluster has the greatest weight. -/
theorem hard_exists (f : Fin 64 → EReal) : (Finset.univ.filter fun k => ∀ l, f l ≤ f k).Nonempty := by
  obtain ⟨k, -, hk⟩ := Finset.exists_max_image Finset.univ f Finset.univ_nonempty
  exact ⟨k, Finset.mem_filter.2 ⟨Finset.mem_univ _, fun l => hk l (Finset.mem_univ _)⟩⟩

/-- The first cluster of greatest weight. -/
def hard (f : Fin 64 → EReal) : Fin 64 := (Finset.univ.filter fun k => ∀ l, f l ≤ f k).min' (hard_exists f)

/-- No weight exceeds the one at the hard assignment. -/
theorem le_hard (f : Fin 64 → EReal) (l : Fin 64) : f l ≤ f (hard f) :=
  (Finset.mem_filter.1 (Finset.min'_mem _ (hard_exists f))).2 l

/-- A cluster of greatest weight does not come before the hard assignment. -/
theorem hard_le (f : Fin 64 → EReal) (k : Fin 64) (h : ∀ l, f l ≤ f k) : hard f ≤ k :=
  Finset.min'_le _ _ (Finset.mem_filter.2 ⟨Finset.mem_univ _, h⟩)

/-- A cluster of greatest weight, none before it reaching that weight, is the hard assignment. -/
theorem eq_hard (f : Fin 64 → EReal) (k : Fin 64) (h : ∀ l, f l ≤ f k) (h' : ∀ l, f l = f k → k ≤ l) : k = hard f :=
  le_antisymm (h' _ (le_antisymm (h _) (le_hard f k))) (hard_le f k h)

/-- The row of weights of one point. -/
def row (A : Weights) (n : Fin 320000) : Fin 64 → EReal := fun k => A (ix2 n k)

/-- The cluster that a point is assigned to. -/
def own (A : Weights) (n : Fin 320000) : Fin 64 := hard (row A n)

/-- Each cluster's total weight. -/
def mass (A : Weights) (k : Fin 64) : EReal := ∑ n : Fin 320000, A (ix2 n k)

/-- Each cluster's share of the weight: its total over the number of points. -/
def prob (S : Fin 64 → EReal) (k : Fin 64) : EReal := Ideal.div (S k) (Ideal.ofBits .f32 0x489C4000#32)

/-- The balance loss of the totals. -/
def balance (S : Fin 64 → EReal) : EReal :=
  ∑ k, Ideal.ofBits .f32 0x3C800000#32 * (Ideal.log (Ideal.ofBits .f32 0x3C800000#32) - Ideal.log (prob S k + Ideal.ofBits .f32 0x322BCC77#32))

/-- The expanded squared distance of two centers, cut off below at zero. -/
def gap (C : Centers) (r q : Fin 64) : EReal :=
  max (∑ j, C (ix2 r j) * C (ix2 r j) + ∑ j, C (ix2 q j) * C (ix2 q j) - Ideal.ofBits .f32 0x40000000#32 * ∑ j, C (ix2 r j) * C (ix2 q j)) 0

/-- The separation loss of the centers. -/
def separation (C : Centers) : EReal :=
  Ideal.div (-∑ r : Fin 64, ∑ q : Fin 64, if r = q then 0 else Ideal.sqrt (gap C r q)) (Ideal.ofBits .f32 0x457C0000#32)

/-- The squared distance of a point from its cluster's center. -/
def sq (Z : Points) (A : Weights) (C : Centers) (n : Fin 320000) : EReal :=
  ∑ j : Fin 128, (Z (ix2 n j) - C (ix2 (own A n) j)) * (Z (ix2 n j) - C (ix2 (own A n) j))

/-- The sum of `d` over the points of each cluster. -/
def seg (A : Weights) (d : Fin 320000 → EReal) (k : Fin 64) : EReal := ∑ n : Fin 320000, if own A n = k then d n else 0

/-- The number of clusters of positive count. -/
def filled (cnt : Fin 64 → EReal) : EReal := ∑ k, if 0 < cnt k then 1 else 0

/-- The compactness loss of the clusters' sums and counts. -/
def compact (sum cnt : Fin 64 → EReal) : EReal :=
  if 0 < filled cnt then Ideal.div (∑ k, if 0 < cnt k then Ideal.div (sum k) (cnt k) else 0) (max (filled cnt) 1) else 0

/-- The weighted total of the three losses. -/
def total (b s c : EReal) : EReal :=
  Ideal.ofBits .f32 0x3DCCCCCD#32 * b + Ideal.ofBits .f32 0x3DCCCCCD#32 * s + Ideal.ofBits .f32 0x3DCCCCCD#32 * c

/-- The mean of the clusters' shares. -/
def mean (S : Fin 64 → EReal) : EReal := Ideal.div (∑ k, prob S k) (Ideal.ofBits .f32 0x42800000#32)

/-- The standard deviation of the clusters' shares, one degree of freedom taken off. -/
def spread (S : Fin 64 → EReal) : EReal :=
  Ideal.sqrt (Ideal.div (∑ k, (prob S k - mean S) * (prob S k - mean S)) (Ideal.ofBits .f32 0x427C0000#32))

/-- The point distance with its divisor kept off zero. -/
def smooth (d : EReal) : EReal := Ideal.div d (Ideal.sqrt (d + Ideal.ofBits .f32 0x2B8CBCCC#32))

/-- The point distance: the square root, zero where the square is not positive. -/
def safe (d : EReal) : EReal := if 0 < d then Ideal.sqrt (if 0 < d then d else 1) else 0

/-! ## The constants -/

theorem bits_neg_inf : Ideal.ofBits .f32 0xFF800000#32 = ⊥ := by simp [Ideal.ofBits, Ideal.ieee]
theorem bits_inf : Ideal.ofBits .f32 0x7F800000#32 = ⊤ := by simp [Ideal.ofBits, Ideal.ieee]
theorem bits_64 : Ideal.ofBits .f32 0x42800000#32 = ((64 : ℝ) : EReal) := by
  simp [Ideal.ofBits, Ideal.ieee, -EReal.coe_mul]; norm_num
theorem bits_63 : Ideal.ofBits .f32 0x427C0000#32 = ((63 : ℝ) : EReal) := by
  simp [Ideal.ofBits, Ideal.ieee, -EReal.coe_mul]; norm_num
theorem bits_4032 : Ideal.ofBits .f32 0x457C0000#32 = ((4032 : ℝ) : EReal) := by
  simp [Ideal.ofBits, Ideal.ieee, -EReal.coe_mul]; norm_num
theorem bits_neg_two : Ideal.ofBits .f32 0xC0000000#32 = ((-2 : ℝ) : EReal) := by
  simp [Ideal.ofBits, Ideal.ieee, -EReal.coe_mul, -EReal.coe_neg]; norm_num
/-- The shift under the point distance's root is a positive real. -/
theorem bits_shift : Ideal.ofBits .f32 0x2B8CBCCC#32 = ((9223372 * 2 ^ (-63 : ℤ) : ℝ) : EReal) := by
  simp [Ideal.ofBits, Ideal.ieee, -EReal.coe_mul]

/-! ## The hard assignment as each program finds it -/

/-- The kernel's search: the least of the column numbers at which the row reaches its greatest weight. -/
theorem first_column (f : Fin 64 → EReal) :
    Finset.univ.fold min (⊤ : EReal) (fun k : Fin 64 =>
      if f k = Finset.univ.fold max (⊥ : EReal) f then (((k : ℕ) : ℝ) : EReal) else ((64 : ℝ) : EReal))
      = (((hard f : ℕ) : ℝ) : EReal) := by
  have hM : Finset.univ.fold max (⊥ : EReal) f = f (hard f) := by
    apply le_antisymm
    · exact (Finset.fold_max_le _).2 ⟨bot_le, fun l _ => le_hard f l⟩
    · exact (Finset.le_fold_max _).2 (Or.inr ⟨hard f, Finset.mem_univ _, le_rfl⟩)
  rw [hM]
  apply le_antisymm
  · exact (Finset.fold_min_le _).2 (Or.inr ⟨hard f, Finset.mem_univ _, by rw [if_pos rfl]⟩)
  · refine (Finset.le_fold_min _).2 ⟨le_top, fun k _ => ?_⟩
    split
    · next h =>
      have := hard_le f k fun l => h ▸ le_hard f l
      exact EReal.coe_le_coe_iff.2 (by exact_mod_cast this)
    · exact EReal.coe_le_coe_iff.2 (by exact_mod_cast (hard f).isLt.le)

/-- The kernel's test of a column against the least such column. -/
theorem column_eq (k l : Fin 64) : ((((k : ℕ) : ℝ) : EReal) = (((l : ℕ) : ℝ) : EReal)) ↔ l = k := by
  rw [EReal.coe_eq_coe_iff, Nat.cast_inj, Fin.ext_iff]
  exact eq_comm

/-! ## Distances of finite points -/

/-- A finite sum of reals, read as an extended real. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The squared distance of finite vectors, expanded: the squares' sums and the cross term. -/
theorem expand (z c : Fin 128 → EReal) (hz : ∀ j, ∃ r : ℝ, z j = r) (hc : ∀ j, ∃ r : ℝ, c j = r) :
    ∑ j, z j * z j * 1 + ∑ j, z j * (((-2 : ℝ) : EReal) * c j) + ∑ j, 1 * (c j * c j) = ∑ j, (z j - c j) * (z j - c j) := by
  choose a ha using hz
  choose b hb using hc
  simp only [ha, hb, mul_one, one_mul, ← EReal.coe_mul, ← EReal.coe_sub, coe_sum, ← EReal.coe_add, EReal.coe_eq_coe_iff]
  rw [← Finset.sum_add_distrib, ← Finset.sum_add_distrib]
  exact Finset.sum_congr rfl fun j _ => by ring

/-- A sum of squares of differences of finite vectors is a real that is not negative. -/
theorem sq_real (z c : Fin 128 → EReal) (hz : ∀ j, ∃ r : ℝ, z j = r) (hc : ∀ j, ∃ r : ℝ, c j = r) :
    ∃ r : ℝ, 0 ≤ r ∧ ∑ j, (z j - c j) * (z j - c j) = (r : EReal) := by
  choose a ha using hz
  choose b hb using hc
  refine ⟨∑ j, (a j - b j) * (a j - b j), Finset.sum_nonneg fun j _ => mul_self_nonneg _, ?_⟩
  simp only [ha, hb, ← EReal.coe_mul, ← EReal.coe_sub, coe_sum]

/-- The ideal root of a real that is not negative. -/
theorem sqrt_coe (r : ℝ) (h : 0 ≤ r) : Ideal.sqrt (r : EReal) = (Real.sqrt r : EReal) := by
  show (if r < 0 then (⊥ : EReal) else (Real.sqrt r : EReal)) = _
  rw [if_neg (not_lt.2 h)]

/-- The ideal reciprocal root of a positive real. -/
theorem rsqrt_coe (r : ℝ) (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.2 h.le), if_neg h.ne']

/-- The ideal quotient of reals at a divisor that is not zero. -/
theorem div_coe (a b : ℝ) (h : b ≠ 0) : Ideal.div (a : EReal) (b : EReal) = ((a / b : ℝ) : EReal) := by
  unfold Ideal.div
  rw [if_neg (by exact_mod_cast h), ← EReal.coe_inv, ← EReal.coe_mul, div_eq_mul_inv]

/-- The shift under the root. -/
def shift : ℝ := 9223372 * 2 ^ (-63 : ℤ)

theorem shift_pos : 0 < shift := by unfold shift; positivity

/-- The shifted distance of a real square. -/
theorem smooth_coe (r : ℝ) (h : 0 ≤ r) : smooth (r : EReal) = ((r / Real.sqrt (r + shift) : ℝ) : EReal) := by
  have hp : 0 < r + shift := by have := shift_pos; linarith
  unfold smooth
  rw [bits_shift]
  change Ideal.div (r : EReal) (Ideal.sqrt ((r : EReal) + (shift : EReal))) = _
  rw [← EReal.coe_add, sqrt_coe _ hp.le, div_coe _ _ (Real.sqrt_pos.2 hp).ne']

/-- The kernel's weighted distance at the cluster that a point is assigned to. -/
theorem weigh_own (r : ℝ) (h : 0 ≤ r) :
    max (1 * (r : EReal)) 0 * Ideal.rsqrt (max (1 * (r : EReal)) 0 + Ideal.ofBits .f32 0x2B8CBCCC#32) = smooth (r : EReal) := by
  have hp : 0 < r + shift := by have := shift_pos; linarith
  rw [one_mul, max_eq_left (by exact_mod_cast h), smooth_coe r h, bits_shift]
  change (r : EReal) * Ideal.rsqrt ((r : EReal) + (shift : EReal)) = _
  rw [← EReal.coe_add, rsqrt_coe _ hp, ← EReal.coe_mul, div_eq_mul_inv]

/-- The kernel's weighted distance at any other cluster is zero. -/
theorem weigh_other (x : EReal) :
    max (0 * x) 0 * Ideal.rsqrt (max (0 * x) 0 + Ideal.ofBits .f32 0x2B8CBCCC#32) = 0 := by
  rw [zero_mul, max_self, zero_mul]

/-- The guarded root of a value that is not negative is its root. -/
theorem safe_eq (d : EReal) (h : 0 ≤ d) : safe d = Ideal.sqrt d := by
  unfold safe
  split
  · rfl
  · next h' =>
    rw [le_antisymm (not_lt.1 h') h]
    have := sqrt_coe 0 le_rfl
    rw [Real.sqrt_zero] at this
    exact this.symm

/-! ## Integers read as reals -/

/-- A column number, read as a real. -/
theorem column_word (k : Fin 64) : FloatOps.sitofp (F := Ideal) .f32 (BitVec.ofNat 32 k.val) = (((k : ℕ) : ℝ) : EReal) := by
  have h : (BitVec.ofNat 32 k.val).toInt = (k.val : ℤ) := by revert k; decide +kernel
  change (((BitVec.ofNat 32 k.val).toInt : ℝ) : EReal) = _
  rw [h, Int.cast_natCast]

/-- A truth value, read as a real. -/
theorem flag_word (b : Bool) : FloatOps.sitofp (F := Ideal) .f32 (BitVec.setWidth 32 (BitVec.ofBool b)) = if b = true then (1 : EReal) else 0 := by
  change (((BitVec.setWidth 32 (BitVec.ofBool b)).toInt : ℝ) : EReal) = _
  cases b <;> simp

/-- The test that two centers differ. -/
theorem differ {α : Type} (r q : Fin 64) (a b : α) :
    Scalar.select (IntOp.cmpi .ne (BitVec.ofNat 32 r.val) (BitVec.ofNat 32 q.val)) a b = if r = q then b else a := by
  have h : IntOp.cmpi .ne (BitVec.ofNat 32 r.val) (BitVec.ofNat 32 q.val) = if r = q then 0#1 else 1#1 := by
    revert r q; decide +kernel
  rw [h]
  split <;> rfl

end Cert.Spec

end
-- ==== Proof.Payloads.lean ====
/- The kernel body's stored values, read at the reals: what one grid step adds to each of the three running rows, and the
   five numbers computed from the finished rows. -/
module

public import proofs.«01_k».proof.Proof.Spec
public import proofs.«01_k».proof.Proof.Gen.KernelIdeal.Skeleton
public import Idealize.ShloMosaic.Lib.Pipeline.ValueKit

@[expose] public section

set_option maxRecDepth 16384

noncomputable section

namespace Cert.KernelIdeal.Losses

open Idealize.ShloMosaic Idealize.SL.Sem
open Cert.KernelIdeal Cert.KernelIdeal.Gen Cert.Spec

/-! ## One grid step -/

/-- The first grid step clears the running weight totals. -/
theorem clear_mass (k : Fin 64) : k0_pay15 (F := Ideal) (ix2 0 k) = 0 := by
  pointwise [k0_pay15]

/-- The first grid step clears the running distance sums. -/
theorem clear_seg (k : Fin 64) : k0_pay16 (F := Ideal) (ix2 0 k) = 0 := by
  pointwise [k0_pay16]

/-- The first grid step clears the running counts. -/
theorem clear_count (k : Fin 64) : k0_pay17 (F := Ideal) (ix2 0 k) = 0 := by
  pointwise [k0_pay17]

/-- A grid step adds its rows' weights to the running totals. -/
theorem step_mass (a : FVec Ideal S16000x64 .f32) (acc : FVec Ideal S1x64 .f32) (k : Fin 64) :
    k0_pay18 a acc (ix2 0 k) = acc (ix2 0 k) + ∑ x : Fin 16000, a (ix2 x k) := by
  pointwise [k0_pay18]

/-- The assignment matrix of a grid step: one at a row's hard assignment, zero elsewhere. -/
theorem onehot (a : FVec Ideal S16000x64 .f32) (x : Fin 16000) (k : Fin 64) :
    k0_pay19 (F := Ideal) a (ix2 x k) = if hard (fun l => a (ix2 x l)) = k then 1 else 0 := by
  pointwise [k0_pay19]
  rw [bits_neg_inf, bits_inf, bits_64]
  simp only [column_word]
  rw [first_column fun l => a (ix2 x l)]
  simp only [column_eq]

/-- A grid step adds its assignment matrix's columns to the running counts. -/
theorem step_count (v : FVec Ideal S16000x64 .f32) (acc : FVec Ideal S1x64 .f32) (k : Fin 64) :
    k0_pay3 v acc (ix2 0 k) = acc (ix2 0 k) + ∑ x : Fin 16000, v (ix2 x k) := by
  pointwise [k0_pay3]

/-- On finite points and centers, a grid step adds to the running distance sums each row's distance at its cluster. -/
theorem step_seg (z : FVec Ideal S16000x128 .f32) (a : FVec Ideal S16000x64 .f32) (C : FVec Ideal S64x128 .f32)
    (w : FVec Ideal S256x64 .f32) (acc : FVec Ideal S1x64 .f32) (k : Fin 64)
    (hz : ∀ x j, ∃ r : ℝ, z (ix2 x j) = r) (hC : ∀ q j, ∃ r : ℝ, C (ix2 q j) = r)
    (h1 : ∀ (j : Fin 128) (q : Fin 64), w (ix2 (⟨j.val, by omega⟩ : Fin 256) q) = (1 : EReal))
    (h2 : ∀ (j : Fin 128) (q : Fin 64), w (ix2 (⟨128 + j.val, by omega⟩ : Fin 256) q) = ((-2 : ℝ) : EReal) * C (ix2 q j)) :
    k0_pay2 C (k0_pay19 (F := Ideal) a) k0_pay21 (k0_pay22 z) (k0_pay23 w) (constant S16000x64 .f32 0x00000000#32) acc (ix2 0 k)
      = acc (ix2 0 k) + ∑ x : Fin 16000, if hard (fun l => a (ix2 x l)) = k
          then smooth (∑ j : Fin 128, (z (ix2 x j) - C (ix2 k j)) * (z (ix2 x j) - C (ix2 k j))) else 0 := by
  have hv := onehot a
  generalize k0_pay19 (F := Ideal) a = v at hv ⊢
  pointwise [k0_pay2, k0_pay21, k0_pay22, k0_pay23, k0_pay1]
  refine congrArg (acc (ix2 0 k) + ·) (Finset.sum_congr rfl fun x _ => ?_)
  rw [hv]
  split
  · have e := expand (fun j => z (ix2 x j)) (fun j => C (ix2 k j)) (hz x) (hC k)
    obtain ⟨r, hr, e'⟩ := sq_real (fun j => z (ix2 x j)) (fun j => C (ix2 k j)) (hz x) (hC k)
    simp only [one_mul] at e
    simp only [h1, h2]
    rw [e, e', weigh_own r hr]
  · exact weigh_other _

/-! ## The five numbers -/

/-- The balance loss, from the finished weight totals. -/
theorem lane_balance (v : FVec Ideal S1x64 .f32) : (k0_pay8 (F := Ideal) v : EReal) = balance fun k => v (ix2 0 k) := by
  pointwise [k0_pay8, k0_pay5]
  rfl

/-- The separation loss, from the centers. -/
theorem lane_separation (C : FVec Ideal S64x128 .f32) :
    (k0_pay10 (F := Ideal) (k0_pay9 C k0_pay20 (k0_pay1 C k0_pay21)) : EReal) = separation C := by
  pointwise [k0_pay10, k0_pay9, k0_pay20, k0_pay1, k0_pay21]
  simp only [differ]
  rw [zero_sub]
  rfl

/-- The compactness loss, from the finished distance sums and counts. -/
theorem lane_compact (s n : FVec Ideal S1x64 .f32) :
    (k0_pay11 (F := Ideal) (k0_pay6 s) (k0_pay7 n) : EReal) = compact (fun k => s (ix2 0 k)) (fun k => n (ix2 0 k)) := by
  pointwise [k0_pay11, k0_pay6, k0_pay7]
  simp only [flag_word, decide_eq_true_eq]
  unfold compact filled
  have h : ∀ x : Fin 64, (if 0 < n (ix2 0 x) then Ideal.div (s (ix2 0 x)) (if 0 < n (ix2 0 x) then n (ix2 0 x) else 1) else 0)
      = if 0 < n (ix2 0 x) then Ideal.div (s (ix2 0 x)) (n (ix2 0 x)) else 0 := fun x => by split <;> rfl
  simp only [h]

/-- The weighted total, from the three losses. -/
theorem lane_total (s n : FVec Ideal S64 .f32) (b x : Ideal .f32) :
    (k0_pay12 s n b x : EReal) = total b (k0_pay10 x) (k0_pay11 s n) := by
  pointwise [k0_pay12, k0_pay11, k0_pay10]
  rfl

/-- The spread of the shares, from the finished weight totals. -/
theorem lane_spread (v : FVec Ideal S1x64 .f32) : (k0_pay13 (F := Ideal) (k0_pay5 v) : EReal) = spread fun k => v (ix2 0 k) := by
  pointwise [k0_pay13, k0_pay5]
  rfl

/-- The result row holds the five numbers in its first five lanes: total, balance, separation, compactness, spread. -/
theorem lanes (b s c t d : Ideal .f32) :
    k0_pay4 b s c t d (iota Kind.tc S1x8 32 [1] iota_S1x8_d1_w32) k0_pay14 (ix2 0 0) = t
    ∧ k0_pay4 b s c t d (iota Kind.tc S1x8 32 [1] iota_S1x8_d1_w32) k0_pay14 (ix2 0 1) = b
    ∧ k0_pay4 b s c t d (iota Kind.tc S1x8 32 [1] iota_S1x8_d1_w32) k0_pay14 (ix2 0 2) = s
    ∧ k0_pay4 b s c t d (iota Kind.tc S1x8 32 [1] iota_S1x8_d1_w32) k0_pay14 (ix2 0 3) = c
    ∧ k0_pay4 b s c t d (iota Kind.tc S1x8 32 [1] iota_S1x8_d1_w32) k0_pay14 (ix2 0 4) = d := by
  have h : ∀ l : Fin 8, k0_pay4 b s c t d (iota Kind.tc S1x8 32 [1] iota_S1x8_d1_w32) k0_pay14 (ix2 0 l)
      = Scalar.select (IntOp.cmpi .eq (BitVec.ofNat 32 l.val) 4#32) d
        (Scalar.select (IntOp.cmpi .eq (BitVec.ofNat 32 l.val) 3#32) c
          (Scalar.select (IntOp.cmpi .eq (BitVec.ofNat 32 l.val) 2#32) s
            (Scalar.select (IntOp.cmpi .eq (BitVec.ofNat 32 l.val) 1#32) b
              (Scalar.select (IntOp.cmpi .eq (BitVec.ofNat 32 l.val) 0#32) t (0 : EReal))))) := by
    intro l
    pointwise [k0_pay4, k0_pay14]
  refine ⟨?_, ?_, ?_, ?_, ?_⟩ <;> rw [h] <;> rfl

end Cert.KernelIdeal.Losses

end
-- ==== Proof.KernelValue.lean ====
/- What the kernel's run leaves in its five results: the finished rows are the arrays' totals, the 20 grid steps of
   16000 rows taken together. -/
module

public import proofs.«01_k».proof.Proof.Payloads
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Losses

open Idealize.ShloMosaic Idealize.ShloMosaic.TcCoe Idealize.SL.Sem
open Idealize.ShloMosaic.Pipeline (Dat)
open Cert.KernelIdeal Cert.KernelIdeal.Gen Cert.Spec

variable (m : (ℓ : Loc nD τ sig) → Buf (Elt Ideal) ℓ) (g : Dev nD → PrngReg)

/-- The points, as launched. -/
abbrev pts (c : Dev nD) : Points := m ((c : Thread nD τ).loc main_arg0)
/-- The assignment weights, as launched. -/
abbrev wts (c : Dev nD) : Weights := m ((c : Thread nD τ).loc main_arg1)
/-- The cluster centers, as launched. -/
abbrev ctr (c : Dev nD) : Centers := m ((c : Thread nD τ).loc main_arg2)

/-! ## The blocks a grid step reads -/

/-- Where each window's block lies at a grid point. -/
theorem idx : ∀ t : Fin cfg0.N, win0_0.index t = ![t.val, 0] ∧ win0_1.index t = ![t.val, 0] ∧ win0_2.index t = ![0, 0]
    ∧ win0_3.index t = ![0, 0] ∧ win0_4.index t = ![0, 0] :=
  (by decide +kernel : ∀ t : Fin grid0.N, _)

/-- The block of points at a grid step. -/
abbrev blkZ (c : Dev nD) (t : Fin cfg0.N) : FVec Ideal S16000x128 .f32 := iblk m c 0 t
/-- The block of assignment weights at a grid step. -/
abbrev blkA (c : Dev nD) (t : Fin cfg0.N) : FVec Ideal S16000x64 .f32 := iblk m c 1 t
/-- The host's matrix, as a grid step reads it. -/
abbrev blkW (c : Dev nD) (t : Fin cfg0.N) : FVec Ideal S256x64 .f32 := iblk m c 3 t

/-- A grid step's points are 16000 consecutive rows of the array. -/
theorem block_z (c : Dev nD) (t : Fin cfg0.N) (x : Fin 16000) (j : Fin 128) (n : Fin 320000) (hn : n.val = t.val * 16000 + x.val) :
    blkZ m c t (ix2 x j) = pts m c (ix2 n j) := by
  blk_ext [iblk, V, idx t]

/-- A grid step's assignment weights are 16000 consecutive rows of the array. -/
theorem block_a (c : Dev nD) (t : Fin cfg0.N) (x : Fin 16000) (k : Fin 64) (n : Fin 320000) (hn : n.val = t.val * 16000 + x.val) :
    blkA m c t (ix2 x k) = wts m c (ix2 n k) := by
  blk_ext [iblk, V, idx t]

/-- The block of centers is the whole array at every grid step. -/
theorem block_c (c : Dev nD) (t : Fin cfg0.N) : iblk m c 2 t = ctr m c := by
  blk_ext! [iblk, V, idx t]

/-- The host's matrix: ones above minus two times the turned centers. -/
def hostMatrix (C : Centers) : FVec Ideal S256x64 .f32 :=
  concatenate S256x64 0 [⟨S128x64, broadcastInDim S128x64 ![] bcast_S_S128x64 (constant (F := Ideal) S_ .f32 0x3F800000#32)⟩,
    ⟨S128x64, mulf (broadcastInDim S128x64 ![] bcast_S_S128x64 (constant (F := Ideal) S_ .f32 0xC0000000#32))
      (transpose S128x64 [1, 0] C transposes_S64x128_S128x64_1_0)⟩] concatenates_S128x64_S128x64_S256x64_d0

/-- The region finds the host's matrix in its fourth array. -/
theorem entry_matrix (c : Dev nD) : V m c main_v4 = hostMatrix (ctr m c) := by
  change StableHlo.after hostOps0 (fun b => m (c, b)) (Proc.devRef .tc main_v4) = _
  entry_read
  rfl

/-- Every grid step reads the whole of the host's matrix. -/
theorem block_w (c : Dev nD) (t : Fin cfg0.N) (i : Fin 256) (q : Fin 64) : blkW m c t (ix2 i q) = hostMatrix (ctr m c) (ix2 i q) := by
  rw [← entry_matrix]
  blk_ext [iblk, idx t]

/-- The first half of the host's matrix is ones. -/
theorem matrix_one (C : Centers) (j : Fin 128) (q : Fin 64) : hostMatrix C (ix2 (⟨j.val, by omega⟩ : Fin 256) q) = (1 : EReal) := by
  pointwise [hostMatrix]

/-- The second half of the host's matrix is minus two times the centers, turned. -/
theorem matrix_two (C : Centers) (j : Fin 128) (q : Fin 64) :
    hostMatrix C (ix2 (⟨128 + j.val, by omega⟩ : Fin 256) q) = ((-2 : ℝ) : EReal) * C (ix2 q j) := by
  pointwise [hostMatrix]
  rw [bits_neg_two]

/-! ## The running rows -/

/-- The running weight totals after the first grid step. -/
theorem mass_first (c : Dev nD) (t : Fin cfg0.N) (h0 : t.val % 20 = 0) :
    (outsAt0 m c t.val t.isLt).2.1 = k0_pay18 (F := Ideal) (blkA m c t) (k0_pay15 (F := Ideal)) := by
  rw [outsAt0_A m c t h0 (by omega)]
  frame_out

/-- The running weight totals after a later grid step. -/
theorem mass_next (c : Dev nD) (t : Fin cfg0.N) (h0 : ¬t.val % 20 = 0) :
    (outsAt0 m c t.val t.isLt).2.1
      = k0_pay18 (F := Ideal) (blkA m c t) (outsAt0 m c (t.val - 1) (Nat.lt_of_le_of_lt (Nat.sub_le _ _) t.isLt)).2.1 := by
  by_cases h1 : t.val % 20 = 19
  · rw [outsAt0_C m c t h0 h1]
    frame_out
    simp only [read_unread_whole]
  · rw [outsAt0_B m c t h0 h1]
    frame_out
    simp only [read_unread_whole]

/-- The finished weight totals. -/
theorem mass_last (c : Dev nD) (t : Fin cfg0.N) (ht : t.val % 20 = 19) (k : Fin 64) :
    (outsAt0 m c t.val t.isLt).2.1 (ix2 0 k) = mass (wts m c) k := by
  have hN : t.val < 20 := lt_of_lt_of_eq t.isLt (show cfg0.N = 20 from N_0)
  have h := Pipeline.eq_sum_fin_of_reset_step_apply_of_flush (M := EReal) (N := cfg0.N)
    (fun n hn (k : Fin 64) => (outsAt0 m c n hn).2.1 (ix2 0 k)) 20 (fun _ => 0) (fun t k => ∑ x : Fin 16000, blkA m c t (ix2 x k))
    (fun t h0 k => by
      rw [mass_first m c t h0]
      exact (step_mass _ _ k).trans (by rw [clear_mass]))
    (fun t h0 k => by
      rw [mass_next m c t h0]
      exact step_mass _ _ k) t ht k
  refine h.trans ?_
  rw [zero_add]
  exact Fin.sum_mul_add_congr fun s x hl => block_a m c _ x k ⟨s.val * 16000 + x.val, hl⟩ (by dsimp only; omega)

/-- The running counts after the first grid step. -/
theorem count_first (c : Dev nD) (t : Fin cfg0.N) (h0 : t.val % 20 = 0) :
    (outsAt0 m c t.val t.isLt).2.2.2 = k0_pay3 (k0_pay19 (F := Ideal) (blkA m c t)) (k0_pay17 (F := Ideal)) := by
  rw [outsAt0_A m c t h0 (by omega)]
  frame_out

/-- The running counts after a later grid step. -/
theorem count_next (c : Dev nD) (t : Fin cfg0.N) (h0 : ¬t.val % 20 = 0) :
    (outsAt0 m c t.val t.isLt).2.2.2 = k0_pay3 (k0_pay19 (F := Ideal) (blkA m c t))
      (outsAt0 m c (t.val - 1) (Nat.lt_of_le_of_lt (Nat.sub_le _ _) t.isLt)).2.2.2 := by
  by_cases h1 : t.val % 20 = 19
  · rw [outsAt0_C m c t h0 h1]
    frame_out
    simp only [read_unread_whole]
  · rw [outsAt0_B m c t h0 h1]
    frame_out
    simp only [read_unread_whole]

/-- A grid step's row has the hard assignment of the array's row. -/
theorem block_own (c : Dev nD) (t : Fin cfg0.N) (x : Fin 16000) (n : Fin 320000) (hn : n.val = t.val * 16000 + x.val) :
    hard (fun l => blkA m c t (ix2 x l)) = own (wts m c) n :=
  congrArg hard (funext fun l => block_a m c t x l n hn)

/-- The finished counts. -/
theorem count_last (c : Dev nD) (t : Fin cfg0.N) (ht : t.val % 20 = 19) (k : Fin 64) :
    (outsAt0 m c t.val t.isLt).2.2.2 (ix2 0 k) = seg (wts m c) (fun _ => 1) k := by
  have hN : t.val < 20 := lt_of_lt_of_eq t.isLt (show cfg0.N = 20 from N_0)
  have hstep : ∀ (t : Fin cfg0.N) (acc : FVec Ideal S1x64 .f32) (k : Fin 64),
      k0_pay3 (k0_pay19 (F := Ideal) (blkA m c t)) acc (ix2 0 k)
        = acc (ix2 0 k) + ∑ x : Fin 16000, if hard (fun l => blkA m c t (ix2 x l)) = k then 1 else 0 := fun t acc k => by
    rw [step_count]
    simp only [onehot]
  have h := Pipeline.eq_sum_fin_of_reset_step_apply_of_flush (M := EReal) (N := cfg0.N)
    (fun n hn (k : Fin 64) => (outsAt0 m c n hn).2.2.2 (ix2 0 k)) 20 (fun _ => 0)
    (fun t k => ∑ x : Fin 16000, if hard (fun l => blkA m c t (ix2 x l)) = k then 1 else 0)
    (fun t h0 k => by
      rw [count_first m c t h0]
      exact (hstep t _ k).trans (by rw [clear_count]))
    (fun t h0 k => by
      rw [count_next m c t h0]
      exact hstep t _ k) t ht k
  refine h.trans ?_
  rw [zero_add]
  exact Fin.sum_mul_add_congr fun s x hl => by
    rw [block_own m c _ x ⟨s.val * 16000 + x.val, hl⟩ (by dsimp only; omega)]

/-- The running distance sums after the first grid step. -/
theorem seg_first (c : Dev nD) (t : Fin cfg0.N) (h0 : t.val % 20 = 0) :
    (outsAt0 m c t.val t.isLt).2.2.1 = k0_pay2 (ctr m c) (k0_pay19 (F := Ideal) (blkA m c t)) k0_pay21 (k0_pay22 (blkZ m c t))
      (k0_pay23 (blkW m c t)) (constant S16000x64 .f32 0x00000000#32) (k0_pay16 (F := Ideal)) := by
  rw [outsAt0_A m c t h0 (by omega)]
  frame_out
  rw [block_c]

/-- The running distance sums after a later grid step. -/
theorem seg_next (c : Dev nD) (t : Fin cfg0.N) (h0 : ¬t.val % 20 = 0) :
    (outsAt0 m c t.val t.isLt).2.2.1 = k0_pay2 (ctr m c) (k0_pay19 (F := Ideal) (blkA m c t)) k0_pay21 (k0_pay22 (blkZ m c t))
      (k0_pay23 (blkW m c t)) (constant S16000x64 .f32 0x00000000#32)
      (outsAt0 m c (t.val - 1) (Nat.lt_of_le_of_lt (Nat.sub_le _ _) t.isLt)).2.2.1 := by
  by_cases h1 : t.val % 20 = 19
  · rw [outsAt0_C m c t h0 h1]
    frame_out
    simp only [read_unread_whole]
    rw [block_c]
  · rw [outsAt0_B m c t h0 h1]
    frame_out
    simp only [read_unread_whole]
    rw [block_c]

/-- The finished distance sums, on finite points and centers. -/
theorem seg_last (c : Dev nD) (hz : ∀ n j, ∃ r : ℝ, pts m c (ix2 n j) = r) (hC : ∀ q j, ∃ r : ℝ, ctr m c (ix2 q j) = r)
    (t : Fin cfg0.N) (ht : t.val % 20 = 19) (k : Fin 64) :
    (outsAt0 m c t.val t.isLt).2.2.1 (ix2 0 k) = seg (wts m c) (fun n => smooth (sq (pts m c) (wts m c) (ctr m c) n)) k := by
  have hN : t.val < 20 := lt_of_lt_of_eq t.isLt (show cfg0.N = 20 from N_0)
  have hstep : ∀ (t : Fin cfg0.N) (acc : FVec Ideal S1x64 .f32) (k : Fin 64),
      k0_pay2 (ctr m c) (k0_pay19 (F := Ideal) (blkA m c t)) k0_pay21 (k0_pay22 (blkZ m c t))
        (k0_pay23 (blkW m c t)) (constant S16000x64 .f32 0x00000000#32) acc (ix2 0 k)
        = acc (ix2 0 k) + ∑ x : Fin 16000, if hard (fun l => blkA m c t (ix2 x l)) = k
          then smooth (∑ j : Fin 128, (blkZ m c t (ix2 x j) - ctr m c (ix2 k j)) * (blkZ m c t (ix2 x j) - ctr m c (ix2 k j))) else 0 :=
    fun t acc k => by
      have ht' : t.val < 20 := lt_of_lt_of_eq t.isLt (show cfg0.N = 20 from N_0)
      refine step_seg _ _ _ _ _ k (fun x j => ?_) hC (fun j q => ?_) fun j q => ?_
      · rw [block_z m c t x j ⟨t.val * 16000 + x.val, by omega⟩ rfl]
        exact hz _ _
      · rw [block_w]
        exact matrix_one _ j q
      · rw [block_w]
        exact matrix_two _ j q
  have h := Pipeline.eq_sum_fin_of_reset_step_apply_of_flush (M := EReal) (N := cfg0.N)
    (fun n hn (k : Fin 64) => (outsAt0 m c n hn).2.2.1 (ix2 0 k)) 20 (fun _ => 0)
    (fun t k => ∑ x : Fin 16000, if hard (fun l => blkA m c t (ix2 x l)) = k
          then smooth (∑ j : Fin 128, (blkZ m c t (ix2 x j) - ctr m c (ix2 k j)) * (blkZ m c t (ix2 x j) - ctr m c (ix2 k j))) else 0)
    (fun t h0 k => by
      rw [seg_first m c t h0]
      exact (hstep t _ k).trans (by rw [clear_seg]))
    (fun t h0 k => by
      rw [seg_next m c t h0]
      exact hstep t _ k) t ht k
  refine h.trans ?_
  rw [zero_add]
  refine Fin.sum_mul_add_congr fun s x hl => ?_
  rw [block_own m c _ x ⟨s.val * 16000 + x.val, hl⟩ (by dsimp only; omega)]
  split
  · next e =>
    unfold Cert.Spec.sq
    dsimp only
    rw [e]
    refine congrArg smooth (Finset.sum_congr rfl fun j _ => ?_)
    rw [block_z m c _ x j ⟨s.val * 16000 + x.val, hl⟩ (by dsimp only; omega)]
  · rfl

/-! ## The result row -/

/-- The row the last grid step stores, over what it leaves in the running rows. -/
theorem row_last (c : Dev nD) (t : Fin cfg0.N) (h1 : t.val % 20 = 19) :
    (outsAt0 m c t.val t.isLt).1 = k0_pay4 (k0_pay8 (outsAt0 m c t.val t.isLt).2.1)
      (k0_pay10 (k0_pay9 (ctr m c) k0_pay20 (k0_pay1 (ctr m c) k0_pay21)))
      (k0_pay11 (k0_pay6 (outsAt0 m c t.val t.isLt).2.2.1) (k0_pay7 (outsAt0 m c t.val t.isLt).2.2.2))
      (k0_pay12 (k0_pay6 (outsAt0 m c t.val t.isLt).2.2.1) (k0_pay7 (outsAt0 m c t.val t.isLt).2.2.2)
        (k0_pay8 (outsAt0 m c t.val t.isLt).2.1) (k0_pay9 (ctr m c) k0_pay20 (k0_pay1 (ctr m c) k0_pay21)))
      (k0_pay13 (k0_pay5 (outsAt0 m c t.val t.isLt).2.1))
      (iota Kind.tc S1x8 32 [1] iota_S1x8_d1_w32) k0_pay14 := by
  have h0 : ¬t.val % 20 = 0 := by omega
  rw [mass_next m c t h0, seg_next m c t h0, count_next m c t h0, outsAt0_C m c t h0 h1]
  frame_out
  simp only [read_unread_whole]
  rw [block_c]

/-- The last grid point. -/
abbrev tLast : Fin cfg0.N := ⟨19, by rw [show cfg0.N = 20 from N_0]; decide⟩

/-- The result array holds the row that the last grid step stores. -/
theorem final (c : Dev nD) : (dats m 0 c).arrAt 4 cfg0.N = fun i => (outsAt0 m c tLast.val tLast.isLt).1 i := by
  refine (dats m 0 c).arrAt_eq_of_covers 4 _ (by decide +kernel) fun t hf y => ?_
  blk_simp
  rw [after0_4]
  have hN : t.val < 20 := lt_of_lt_of_eq t.isLt (show cfg0.N = 20 from N_0)
  have ht : t = tLast := Fin.ext (by have := (flush0_4 t).1 hf; show t.val = 19; omega)
  subst ht
  blk_ext [idx tLast]

/-- The result row's lanes, on any inputs: the balance and separation losses and the spread. -/
theorem lane_results (c : Dev nD) :
    (outsAt0 m c tLast.val tLast.isLt).1 (ix2 0 1) = balance (mass (wts m c))
    ∧ (outsAt0 m c tLast.val tLast.isLt).1 (ix2 0 2) = separation (ctr m c)
    ∧ (outsAt0 m c tLast.val tLast.isLt).1 (ix2 0 4) = spread (mass (wts m c)) := by
  have hM : (fun k : Fin 64 => (outsAt0 m c tLast.val tLast.isLt).2.1 (ix2 0 k)) = mass (wts m c) :=
    funext fun k => mass_last m c tLast rfl k
  rw [row_last m c tLast rfl]
  obtain ⟨-, e1, e2, -, e4⟩ := lanes (k0_pay8 (outsAt0 m c tLast.val tLast.isLt).2.1)
      (k0_pay10 (k0_pay9 (ctr m c) k0_pay20 (k0_pay1 (ctr m c) k0_pay21)))
      (k0_pay11 (k0_pay6 (outsAt0 m c tLast.val tLast.isLt).2.2.1) (k0_pay7 (outsAt0 m c tLast.val tLast.isLt).2.2.2))
      (k0_pay12 (k0_pay6 (outsAt0 m c tLast.val tLast.isLt).2.2.1) (k0_pay7 (outsAt0 m c tLast.val tLast.isLt).2.2.2)
        (k0_pay8 (outsAt0 m c tLast.val tLast.isLt).2.1) (k0_pay9 (ctr m c) k0_pay20 (k0_pay1 (ctr m c) k0_pay21)))
      (k0_pay13 (k0_pay5 (outsAt0 m c tLast.val tLast.isLt).2.1))
  refine ⟨e1.trans ?_, e2.trans (lane_separation _), e4.trans ?_⟩
  · exact (lane_balance _).trans (congrArg balance hM)
  · exact (lane_spread _).trans (congrArg spread hM)

/-- The result row's two other lanes, on finite points and centers: the weighted total and the compactness loss. -/
theorem lane_results_finite (c : Dev nD) (hz : ∀ n j, ∃ r : ℝ, pts m c (ix2 n j) = r) (hC : ∀ q j, ∃ r : ℝ, ctr m c (ix2 q j) = r) :
    (outsAt0 m c tLast.val tLast.isLt).1 (ix2 0 0) = total (balance (mass (wts m c))) (separation (ctr m c))
      (compact (seg (wts m c) fun n => smooth (sq (pts m c) (wts m c) (ctr m c) n)) (seg (wts m c) fun _ => 1))
    ∧ (outsAt0 m c tLast.val tLast.isLt).1 (ix2 0 3)
      = compact (seg (wts m c) fun n => smooth (sq (pts m c) (wts m c) (ctr m c) n)) (seg (wts m c) fun _ => 1) := by
  have hM : (fun k : Fin 64 => (outsAt0 m c tLast.val tLast.isLt).2.1 (ix2 0 k)) = mass (wts m c) :=
    funext fun k => mass_last m c tLast rfl k
  have hS : (fun k : Fin 64 => (outsAt0 m c tLast.val tLast.isLt).2.2.1 (ix2 0 k))
      = seg (wts m c) fun n => smooth (sq (pts m c) (wts m c) (ctr m c) n) := funext fun k => seg_last m c hz hC tLast rfl k
  have hK : (fun k : Fin 64 => (outsAt0 m c tLast.val tLast.isLt).2.2.2 (ix2 0 k)) = seg (wts m c) fun _ => 1 :=
    funext fun k => count_last m c tLast rfl k
  have hcomp : (k0_pay11 (F := Ideal) (k0_pay6 (outsAt0 m c tLast.val tLast.isLt).2.2.1) (k0_pay7 (outsAt0 m c tLast.val tLast.isLt).2.2.2) : EReal)
      = compact (seg (wts m c) fun n => smooth (sq (pts m c) (wts m c) (ctr m c) n)) (seg (wts m c) fun _ => 1) :=
    (lane_compact _ _).trans (congrArg₂ compact hS hK)
  rw [row_last m c tLast rfl]
  obtain ⟨e0, -, -, e3, -⟩ := lanes (k0_pay8 (outsAt0 m c tLast.val tLast.isLt).2.1)
      (k0_pay10 (k0_pay9 (ctr m c) k0_pay20 (k0_pay1 (ctr m c) k0_pay21)))
      (k0_pay11 (k0_pay6 (outsAt0 m c tLast.val tLast.isLt).2.2.1) (k0_pay7 (outsAt0 m c tLast.val tLast.isLt).2.2.2))
      (k0_pay12 (k0_pay6 (outsAt0 m c tLast.val tLast.isLt).2.2.1) (k0_pay7 (outsAt0 m c tLast.val tLast.isLt).2.2.2)
        (k0_pay8 (outsAt0 m c tLast.val tLast.isLt).2.1) (k0_pay9 (ctr m c) k0_pay20 (k0_pay1 (ctr m c) k0_pay21)))
      (k0_pay13 (k0_pay5 (outsAt0 m c tLast.val tLast.isLt).2.1))
  refine ⟨(e0.trans (lane_total _ _ _ _)).trans ?_, e3.trans hcomp⟩
  rw [hcomp, lane_separation, lane_balance, hM]

/-- The windows' arrays are distinct. -/
theorem arrays_distinct : Function.Injective (Pipeline.arrRef spec0) := by decide +kernel

/-- After the region the lines that cut the result row into its five numbers find it in the result array. -/
theorem after_region (c : Dev nD) :
    Pipeline.withArrays (cfgs 0).spec c (V0 m c) (fun w => (dats m 0 c).arrAt w (cfgs 0).N) (Proc.devRef .tc main_v5)
      = fun i => (outsAt0 m c tLast.val tLast.isLt).1 i :=
  (Pipeline.withArrays_arr (cfgs 0).spec arrays_distinct c _ _ 4).trans (final m c)

/-- The run: the five results are the result row's lanes, and the arguments end unchanged. -/
theorem run : θ_run defs (onTc (τ := τ) (main (F := Ideal))) ⟨m, fun _ => 0, g⟩ fun r => ∀ c : Dev nD,
      r.2.mem ((c : Thread nD τ).loc main_v8) = (fun _ => (outsAt0 m c tLast.val tLast.isLt).1 (ix2 0 0))
      ∧ r.2.mem ((c : Thread nD τ).loc main_v10) = (fun _ => (outsAt0 m c tLast.val tLast.isLt).1 (ix2 0 1))
      ∧ r.2.mem ((c : Thread nD τ).loc main_v12) = (fun _ => (outsAt0 m c tLast.val tLast.isLt).1 (ix2 0 2))
      ∧ r.2.mem ((c : Thread nD τ).loc main_v14) = (fun _ => (outsAt0 m c tLast.val tLast.isLt).1 (ix2 0 3))
      ∧ r.2.mem ((c : Thread nD τ).loc main_v16) = (fun _ => (outsAt0 m c tLast.val tLast.isLt).1 (ix2 0 4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  run_from Cert.KernelIdeal.Gen.run_main m g
  all_goals first
    | change StableHlo.after hostOps1 (Pipeline.withArrays (cfgs 0).spec c (V0 m c) fun w => (dats m 0 c).arrAt w (cfgs 0).N) (Proc.devRef .tc main_v8) = _
    | change StableHlo.after hostOps1 (Pipeline.withArrays (cfgs 0).spec c (V0 m c) fun w => (dats m 0 c).arrAt w (cfgs 0).N) (Proc.devRef .tc main_v10) = _
    | change StableHlo.after hostOps1 (Pipeline.withArrays (cfgs 0).spec c (V0 m c) fun w => (dats m 0 c).arrAt w (cfgs 0).N) (Proc.devRef .tc main_v12) = _
    | change StableHlo.after hostOps1 (Pipeline.withArrays (cfgs 0).spec c (V0 m c) fun w => (dats m 0 c).arrAt w (cfgs 0).N) (Proc.devRef .tc main_v14) = _
    | change StableHlo.after hostOps1 (Pipeline.withArrays (cfgs 0).spec c (V0 m c) fun w => (dats m 0 c).arrAt w (cfgs 0).N) (Proc.devRef .tc main_v16) = _
  all_goals
    entry_read
    rw [after_region]
    generalize (outsAt0 m c tLast.val tLast.isLt).1 = R
    funext i
    pointwise

end Cert.KernelIdeal.Losses

end
-- ==== Proof.RefTerms.lean ====
/- The losses as array operations, in the order in which the reference programs perform them. -/
module

public import proofs.«01_k».proof.Proof.Spec
public import proofs.«01_k».proof.Post_close
public import proofs.«01_k».proof.Pre_finite
public import proofs.«01_k».proof.On_apart

@[expose] public section

set_option maxRecDepth 16384

noncomputable section

namespace Cert.Losses

open Idealize.ShloMosaic
open Cert.Post_close Cert.Post_close.Facts
open Cert.Spec (Points Weights Centers)

/-- The shapes of the tolerance predicate fit together. -/
instance closeFacts : Cert.Post_close.Facts := by constructor <;> decide

/-- The shapes of the finiteness predicate fit together. -/
instance finiteFacts : Cert.Pre_finite.Facts := by constructor <;> decide

/-- The mask of compared results needs no shapes to fit. -/
instance apartFacts : Cert.On_apart.Facts where

/-- A number. -/
abbrev Num := FVec Ideal S_ .f32
/-- One number per cluster. -/
abbrev Row := FVec Ideal S64 .f32
/-- One number per point. -/
abbrev Column := FVec Ideal S320000 .f32

/-- The constant of the given bits. -/
abbrev num (b : BitVec 32) : Num := constant S_ .f32 b
/-- The sum of a row. -/
abbrev sumRow (x : Row) : Num := Host.reduceAdd x (num 0x00000000#32) reducesTo_S64_S_d0 h_S_
/-- A number in every place of a row. -/
abbrev row (x : Num) : Row := broadcastInDim S64 ![] bcast_S_S64 x
/-- A number in every place of a square table. -/
abbrev square (x : Num) : FVec Ideal S64x64 .f32 := broadcastInDim S64x64 ![] bcast_S_S64x64 x
/-- A number in every place of a column. -/
abbrev column (x : Num) : Column := broadcastInDim S320000 ![] bcast_S_S320000 x

/-- The clusters' shares. -/
def probs (A : Weights) : Row :=
  Host.divf (Host.reduceAdd A (num 0x00000000#32) reducesTo_S320000x64_S64_d0 h_S_) (row (num 0x489C4000#32))

/-- The balance loss of the shares. -/
def balanceOf (p : Row) : Num :=
  sumRow (mulf (row (num 0x3C800000#32)) (subf (Host.log (row (num 0x3C800000#32))) (Host.log (addf p (row (num 0x322BCC77#32))))))

/-- The squared norms of the centers. -/
def norms (C : Centers) : Row := Host.reduceAdd (mulf C C) (num 0x00000000#32) reducesTo_S64x128_S64_d1 h_S_

/-- The squared distances of the centers, cut off at zero. -/
def gaps (C : Centers) : FVec Ideal S64x64 .f32 :=
  maximumf (subf (addf (broadcastInDim S64x64 ![0, 1] bcast_S64x1_S64x64_0_1 (broadcastInDim S64x1 ![0] bcast_S64_S64x1_0 (norms C)))
      (broadcastInDim S64x64 ![0, 1] bcast_S1x64_S64x64_0_1 (broadcastInDim S1x64 ![1] bcast_S64_S1x64_1 (norms C))))
    (mulf (square (num 0x40000000#32)) (Host.dotGeneral dot_S64x128_S128x64_S64x64_1_0_0_1_n_n none C
      (transpose S128x64 [1, 0] C transposes_S64x128_S128x64_1_0)))) (square (num 0x00000000#32))

/-- The guarded root of a square table. -/
def rootSquare (d : FVec Ideal S64x64 .f32) : FVec Ideal S64x64 .f32 :=
  fn_where (cmpf .ogt d (square (num 0x00000000#32)))
    (Host.sqrt (fn_where (cmpf .ogt d (square (num 0x00000000#32))) d (num 0x3F800000#32))) (num 0x00000000#32)

/-- The mask of the table's places off the diagonal. -/
def offDiagonal : IVec S64x64 1 :=
  noti (cmpi .eq (addi (iotaInDim S64x64 32 0) (broadcastInDim S64x64 ![] bcast_S_S64x64 (constantI S_ 32 0#32))) (iotaInDim S64x64 32 1))

/-- The number of places off the diagonal, as the integer the programs count. -/
def pairs : IVec S_ 32 :=
  Host.reduce IntOp.addi (extui 32 offDiagonal natLt_1_32) (constantI S_ 32 0#32) reducesTo_S64x64_S_d0_1 h_S_

/-- The separation loss. -/
def separationOf (C : Centers) : Num :=
  Host.divf (Host.negf (Host.reduceAdd (fn_where offDiagonal (rootSquare (gaps C)) (num 0x00000000#32)) (num 0x00000000#32)
    reducesTo_S64x64_S_d0_1 h_S_)) (sitofp .f32 pairs)

/-- The hard assignments, wrapped from the end where negative, as a list of indices. -/
def rowsOf (A : Weights) : IVec S320000x1 32 :=
  broadcastInDim S320000x1 ![0] bcast_S320000_S320000x1_0
    (select (cmpi .slt (fn_argmax (F := Ideal) A) (broadcastInDim S320000 ![] bcast_S_S320000 (constantI S_ 32 0#32)))
      (addi (fn_argmax (F := Ideal) A) (broadcastInDim S320000 ![] bcast_S_S320000 (constantI S_ 32 64#32))) (fn_argmax (F := Ideal) A))

/-- Each point's center. -/
def centerOf (A : Weights) (C : Centers) : Points := Host.gather gather_S64x128_S320000x1_S320000x128_1_0_n_n_0_1_1128 C (rowsOf A)

/-- The squared distances of the points from their centers. -/
def squares (Z : Points) (A : Weights) (C : Centers) : Column :=
  Host.reduceAdd (mulf (subf Z (centerOf A C)) (subf Z (centerOf A C))) (num 0x00000000#32) reducesTo_S320000x128_S320000_d1 h_S_

/-- The points' distances with the divisor kept off zero. -/
def smoothRoot (d : Column) : Column := Host.divf d (Host.sqrt (addf d (column (num 0x2B8CBCCC#32))))

/-- The points' distances by the guarded root. -/
def safeRoot (d : Column) : Column :=
  fn_where_0 (cmpf .ogt d (column (num 0x00000000#32)))
    (Host.sqrt (fn_where_0 (cmpf .ogt d (column (num 0x00000000#32))) d (num 0x3F800000#32))) (num 0x00000000#32)

/-- The hard assignments as a list of indices. -/
def ownersOf (A : Weights) : IVec S320000x1 32 := broadcastInDim S320000x1 ![0] bcast_S320000_S320000x1_0 (fn_argmax (F := Ideal) A)

/-- A column summed over the points of each cluster. -/
def segment (A : Weights) (d : Column) : Row :=
  Host.scatterAdd scatter_S64_S320000x1_S320000_n_0_0_1 (row (num 0x00000000#32)) (ownersOf A) d

/-- The clusters that hold a point. -/
def occupied (n : Row) : IVec S64 1 := cmpf .ogt n (row (num 0x00000000#32))

/-- The compactness loss of the clusters' sums and counts. -/
def compactOf (s n : Row) : Num :=
  fn_where_2 (cmpf .ogt (sumRow (uitofp .f32 (occupied n))) (num 0x00000000#32))
    (Host.divf (sumRow (fn_where_1 (occupied n) (Host.divf s (fn_where_1 (occupied n) n (num 0x3F800000#32))) (num 0x00000000#32)))
      (maximumf (sumRow (uitofp .f32 (occupied n))) (num 0x3F800000#32))) (num 0x00000000#32)

/-- The compactness loss of the points' distances. -/
def compactAll (A : Weights) (d : Column) : Num := compactOf (segment A d) (segment A (column (num 0x3F800000#32)))

/-- The weighted total of the three losses. -/
def totalOf (b s c : Num) : Num :=
  addf (addf (mulf (num 0x3DCCCCCD#32) b) (mulf (num 0x3DCCCCCD#32) s)) (mulf (num 0x3DCCCCCD#32) c)

/-- The spread of the shares. -/
def spreadOf (p : Row) : Num := fn_std p (constantI S_ 32 1#32)

/-- What the tolerance predicate says of a total and a compactness loss. -/
theorem close_eq (Z : Points) (A : Weights) (C : Centers) (t b s c d : Num) :
    Cert.Post_close.fn (F := Ideal) Z A C t b s c d
      = (cmpf .ole t (addf (totalOf (balanceOf (probs A)) (separationOf C) (compactAll A (safeRoot (squares Z A C)))) (num 0x33D6BF95#32)),
        cmpf .ole (totalOf (balanceOf (probs A)) (separationOf C) (compactAll A (safeRoot (squares Z A C)))) (addf t (num 0x33D6BF95#32)),
        cmpf .ole c (addf (compactAll A (safeRoot (squares Z A C))) (num 0x358637BD#32)),
        cmpf .ole (compactAll A (safeRoot (squares Z A C))) (addf c (num 0x358637BD#32))) := rfl

end Cert.Losses

end
-- ==== Proof.RefAssign.lean ====
/- How the reference programs assign points to clusters, and what they gather and sum by the assignment. -/
module

public import proofs.«01_k».proof.Proof.RefTerms
public import Idealize.ShloMosaic.Lib.Routing.Ops
public import Idealize.ShloMosaic.Lib.Routing.OpsPair

@[expose] public section

set_option maxRecDepth 16384

noncomputable section

namespace Cert.Losses

open Idealize.ShloMosaic
open Cert.Post_close Cert.Post_close.Facts
open Cert.Spec (Points Weights Centers own seg sq hard)

/-! ## The search for the greatest weight -/

/-- Cluster numbers compare as words as they do as numbers. -/
theorem word_lt (I J : Fin 64) : IntOp.cmpi .slt (BitVec.ofNat 32 I.val) (BitVec.ofNat 32 J.val) = if I < J then 1#1 else 0#1 := by
  revert I J; decide +kernel

/-- Different cluster numbers are different words. -/
theorem word_inj (I J : Fin 64) : BitVec.ofNat 32 I.val = BitVec.ofNat 32 J.val → I = J := by
  revert I J; decide +kernel

/-- A cluster number, read as an integer. -/
theorem word_int (I : Fin 64) : (BitVec.ofNat 32 I.val).toInt = (I.val : ℤ) := by
  revert I; decide +kernel

/-- One step of the search: the pair held so far stays when its weight is greater, or equal with the smaller cluster number. -/
theorem pick (x y : EReal) (I J : Fin 64) :
    reducer_argmax_f32_i32 (F := Ideal) (x, BitVec.ofNat 32 I.val) (y, BitVec.ofNat 32 J.val)
      = if y < x ∨ (x = y ∧ I < J) then (x, BitVec.ofNat 32 I.val) else (y, BitVec.ofNat 32 J.val) := by
  unfold reducer_argmax_f32_i32
  simp only [word_lt, Ideal.cmpf_def, Ideal.cmp]
  by_cases h1 : y < x <;> by_cases h2 : x = y <;> by_cases h3 : I < J <;>
    simp [h1, h2, h3, IntOp.ori, IntOp.andi, Scalar.select]

/-- What the search holds after the clusters `S` of the row `f`: a cluster, its weight (or the starting pair), nothing in `S` above that
    weight, and nothing in `S` of that weight before that cluster. -/
def Held (f : Fin 64 → EReal) (S : Set (Fin 64)) (p : EReal × BitVec 32) : Prop :=
  ∃ I : Fin 64, p.2 = BitVec.ofNat 32 I.val ∧ (∀ k ∈ S, f k ≤ p.1) ∧ (∀ k ∈ S, f k = p.1 → I ≤ k) ∧ (p.1 = f I ∨ (p.1 = ⊥ ∧ I = 0))

/-- A step of the search adds one cluster to those seen. -/
theorem held_step (f : Fin 64 → EReal) (S : Set (Fin 64)) (p : EReal × BitVec 32) (J : Fin 64) (h : Held f S p) :
    Held f (insert J S) (reducer_argmax_f32_i32 (F := Ideal) p (f J, BitVec.ofNat 32 J.val)) := by
  obtain ⟨x, w⟩ := p
  obtain ⟨I, hw, hle, heq, hx⟩ := h
  dsimp only at hw hle heq hx
  subst hw
  rw [pick]
  split
  · next hc =>
    refine ⟨I, rfl, ?_, ?_, hx⟩
    · rintro k (rfl | hk)
      · exact hc.elim le_of_lt fun h => h.1.ge
      · exact hle k hk
    · rintro k (rfl | hk) e
      · exact hc.elim (fun h => absurd e h.ne) fun h => h.2.le
      · exact heq k hk e
  · next hc =>
    have hxy : x ≤ f J := not_lt.1 fun h => hc (Or.inl h)
    refine ⟨J, rfl, ?_, ?_, Or.inl rfl⟩
    · rintro k (rfl | hk)
      · exact le_rfl
      · exact (hle k hk).trans hxy
    · rintro k (rfl | hk) e
      · exact le_rfl
      · have e' : f k = f J := e
        have hx' : x = f J := le_antisymm hxy (e' ▸ hle k hk)
        exact (not_lt.1 fun h => hc (Or.inr ⟨hx', h⟩)).trans (heq k hk (e'.trans hx'.symm))

/-- The search over a list of the row's pairs sees each cluster on it. -/
theorem held_list (f : Fin 64 → EReal) (l : List (EReal × BitVec 32)) (S : Set (Fin 64)) (p : EReal × BitVec 32)
    (hl : ∀ q ∈ l, ∃ k : Fin 64, q = (f k, BitVec.ofNat 32 k.val)) (h : Held f S p) :
    ∃ T : Set (Fin 64), S ⊆ T ∧ (∀ k : Fin 64, (f k, BitVec.ofNat 32 k.val) ∈ l → k ∈ T)
      ∧ Held f T (l.foldl (reducer_argmax_f32_i32 (F := Ideal)) p) := by
  induction l generalizing S p with
  | nil => exact ⟨S, subset_rfl, fun k hk => absurd hk List.not_mem_nil, h⟩
  | cons q l ih =>
    obtain ⟨J, rfl⟩ := hl _ List.mem_cons_self
    obtain ⟨T, hST, hT, hH⟩ := ih (insert J S) _ (fun q hq => hl q (List.mem_cons_of_mem _ hq)) (held_step f S p J h)
    refine ⟨T, (Set.subset_insert J S).trans hST, fun k hk => ?_, hH⟩
    rcases List.mem_cons.1 hk with e | hk
    · have : (BitVec.ofNat 32 k.val) = BitVec.ofNat 32 J.val := congrArg Prod.snd e
      have hkJ : k = J := word_inj k J this
      exact hST (hkJ ▸ Set.mem_insert J S)
    · exact hT k hk

/-- The search over the whole row finds the hard assignment. -/
theorem held_all (f : Fin 64 → EReal) (p : EReal × BitVec 32) (h : Held f Set.univ p) : p.2 = BitVec.ofNat 32 (hard f).val := by
  obtain ⟨I, hw, hle, heq, hx⟩ := h
  have hI : p.1 = f I := by
    rcases hx with h | ⟨h, -⟩
    · exact h
    · exact le_antisymm (h ▸ bot_le) (hle I trivial)
  rw [hw, Cert.Spec.eq_hard f I (fun l => hI ▸ hle l trivial) fun l e => heq l trivial (e.trans hI.symm)]

/-- The search along the rows of any number of points finds each row's hard assignment. -/
theorem search {N : Nat} {u : Shape} (A : FVec Ideal ⟨2, ![N, 64]⟩ .f32) (ix : u.Idx → EReal) (iy : u.Idx → BitVec 32)
    (hx : ∀ i, ix i = ⊥) (hy : ∀ i, iy i = 0#32) (h : (⟨2, ![N, 64]⟩ : Shape).ReducesTo [1] ⟨1, ![N]⟩) (hu : 0 < u.numel) :
    (fun j => (Host.argReduce (φ := .f32) (reducer_argmax_f32_i32 (F := Ideal)) A (iotaInDim ⟨2, ![N, 64]⟩ 32 1) ix iy h hu j).2)
      = fun j => BitVec.ofNat 32 (hard fun k => A (ix2 (j 0) k)).val := by
  funext j
  obtain ⟨n, rfl⟩ : ∃ n, j = ix1 n := ⟨j 0, (ix1_eta j).symm⟩
  rw [Ideal.argReduce_eq_reduce2, Host.reduce2_eq_foldl_fiber, hx, hy]
  have hmem : ∀ q : EReal × BitVec 32, q ∈ Host.argReduceFiber A (iotaInDim ⟨2, ![N, 64]⟩ 32 1) h (ix1 n)
      ↔ ∃ k : Fin 64, q = (A (ix2 n k), BitVec.ofNat 32 k.val) := by
    intro q
    unfold Host.argReduceFiber
    simp only [List.mem_map, List.mem_filter, List.mem_finRange, true_and, decide_eq_true_eq, Shape.ReducesTo.fiber_r2_a1]
    constructor
    · rintro ⟨p, ⟨k, hk⟩, rfl⟩
      refine ⟨k, ?_⟩
      rw [← hk]
      rfl
    · rintro ⟨k, rfl⟩
      refine ⟨(⟨2, ![N, 64]⟩ : Shape).rowMajor (ix2 n k), ⟨k, ?_⟩, ?_⟩
      · rw [Equiv.symm_apply_apply]
        rfl
      · rw [Equiv.symm_apply_apply]
        rfl
  obtain ⟨T, -, hT, hH⟩ := held_list (fun k => A (ix2 n k)) _ ∅ ((⊥ : EReal), 0#32) (fun q hq => (hmem q).1 hq)
    ⟨0, rfl, fun k hk => hk.elim, fun k hk => hk.elim, Or.inr ⟨rfl, rfl⟩⟩
  have hTu : T = Set.univ := Set.eq_univ_of_forall fun k => hT k ((hmem _).2 ⟨k, rfl⟩)
  exact held_all _ _ (hTu ▸ hH)

/-- The programs' indices of the greatest weights are the hard assignments. -/
theorem argmax_all (A : Weights) : fn_argmax (F := Ideal) A = fun j => BitVec.ofNat 32 (hard fun k => A (ix2 (j 0) k)).val :=
  Eq.trans (b := fun j => (Host.argReduce (φ := .f32) (reducer_argmax_f32_i32 (F := Ideal)) A (iotaInDim S320000x64 32 1) (constant (F := Ideal) S_ .f32 0xFF800000#32)
    (constantI S_ 32 0#32) reducesTo_S320000x64_S320000_d1 h_S_ j).2) rfl
    (search (N := 320000) (u := S_) A (constant (F := Ideal) S_ .f32 0xFF800000#32) (constantI S_ 32 0#32) (fun _ => Cert.Spec.bits_neg_inf)
      (fun _ => rfl) reducesTo_S320000x64_S320000_d1 h_S_)

/-- The programs' index of the greatest weight is the hard assignment. -/
theorem argmax_eq (A : Weights) (n : Fin 320000) : fn_argmax (F := Ideal) A (ix1 n) = BitVec.ofNat 32 (own A n).val :=
  congrFun (argmax_all A) (ix1 n)

/-! ## What the assignment selects -/

/-- The wrapped assignments are the assignments: none is negative. -/
theorem rows_eq (A : Weights) (n : Fin 320000) : rowsOf A (ix2 n 0) = BitVec.ofNat 32 (own A n).val := by
  have h : rowsOf A (ix2 n 0) = Scalar.select (IntOp.cmpi .slt (fn_argmax (F := Ideal) A (ix1 n)) 0#32)
      (IntOp.addi (fn_argmax (F := Ideal) A (ix1 n)) 64#32) (fn_argmax (F := Ideal) A (ix1 n)) := by
    unfold rowsOf
    generalize fn_argmax (F := Ideal) A = v
    pointwise
  rw [h, argmax_eq, Routing.wrap_of_lt]
  rw [BitVec.toNat_ofNat]
  have := (own A n).isLt
  omega

/-- The row gathered for a point is its cluster's center. -/
theorem center_eq (A : Weights) (C : Centers) (n : Fin 320000) (j : Fin 128) : centerOf A C (ix2 n j) = C (ix2 (own A n) j) :=
  Routing.gather_row (nb := 64) (B := 128) (n := 320000) gather_S64x128_S320000x1_S320000x128_1_0_n_n_0_1_1128 rfl rfl rfl rfl rfl C (rowsOf A)
    n j (own A n) (rows_eq A n) (by norm_num)

/-- The squared distances are those of the points from their clusters' centers. -/
theorem squares_eq (Z : Points) (A : Weights) (C : Centers) (n : Fin 320000) : squares Z A C (ix1 n) = sq Z A C n := by
  have h : squares Z A C (ix1 n) = ∑ j : Fin 128, (Z (ix2 n j) - centerOf A C (ix2 n j)) * (Z (ix2 n j) - centerOf A C (ix2 n j)) := by
    unfold squares
    generalize centerOf A C = c
    pointwise
  rw [h]
  unfold Cert.Spec.sq
  simp only [center_eq]

/-- An update lands at the entry that its index names. -/
theorem lands {N : Nat} (d : ScatterDims ⟨1, ![64]⟩ ⟨2, ![N, 1]⟩ ⟨1, ![N]⟩) (hw : d.insertedWindowDims = [0]) (hs : d.scatterDimsToOperandDims = [0])
    (hv : d.indexVectorDim = 1) (idx : IVec ⟨2, ![N, 1]⟩ 32) (n : Fin N) (k : Fin 64) :
    d.resultIdx? (ix1 n) idx = some (ix1 k) ↔ (idx (ix2 n 0)).toInt = (k.val : ℤ) := by
  have hm : (0 : Fin 1) ∈ d.scatterDimsToOperandDims := by rw [hs]; exact List.mem_singleton.2 rfl
  have h0 : d.window (ix1 n) 0 = 0 := by
    unfold ScatterDims.window
    exact dif_neg fun h => (of_decide_eq_true (List.mem_filter.1 h).2) (by rw [hw]; exact List.mem_singleton.2 rfl)
  have h1 : d.start (ix1 n) idx 0 = (idx (ix2 n 0)).toInt := by
    unfold ScatterDims.start
    rw [dif_pos hm]
    refine congrArg (fun i => (idx i).toInt) (funext fun b => Fin.ext ?_)
    match b with
    | ⟨0, _⟩ =>
      unfold ScatterDims.siIdx
      rw [dif_neg (by rw [hv]; exact Nat.zero_ne_one)]
      unfold ScatterDims.siCoord
      exact congrArg (fun x => ((ix1 n : (⟨1, ![N]⟩ : Shape).Idx) x).val) (Subsingleton.elim _ (0 : Fin 1))
    | ⟨1, _⟩ =>
      unfold ScatterDims.siIdx
      rw [dif_pos (by rw [hv])]
      exact Nat.lt_one_iff.1 (Fin.isLt _)
  rw [Routing.resultIdx?_eq_some]
  constructor
  · intro h
    have := h 0
    rw [h0, h1] at this
    simpa using this
  · intro h a
    obtain rfl : a = 0 := Subsingleton.elim _ _
    rw [h0, h1, h]
    simp

/-- Sums by cluster of any number of points, the clusters given as words. -/
theorem scattered {N : Nat} (d : ScatterDims ⟨1, ![64]⟩ ⟨2, ![N, 1]⟩ ⟨1, ![N]⟩) (hw : d.insertedWindowDims = [0]) (hs : d.scatterDimsToOperandDims = [0])
    (hv : d.indexVectorDim = 1) (x : FVec Ideal ⟨1, ![64]⟩ .f32) (idx : IVec ⟨2, ![N, 1]⟩ 32) (v : FVec Ideal ⟨1, ![N]⟩ .f32) (k : Fin 64)
    (hx : x (ix1 k) = (0 : EReal)) (o : Fin N → Fin 64) (ho : ∀ n, idx (ix2 n 0) = BitVec.ofNat 32 (o n).val) :
    Host.scatterAdd d x idx v (ix1 k) = ∑ n : Fin N, if o n = k then (v (ix1 n) : EReal) else 0 := by
  change (x (ix1 k) : EReal) + ∑ j ∈ Finset.univ.filter (fun j => d.resultIdx? j idx = some (ix1 k)), (v j : EReal) = _
  rw [hx, zero_add, Finset.sum_filter, sum_idx1]
  refine Finset.sum_congr rfl fun n _ => ?_
  have h : d.resultIdx? (ix1 n) idx = some (ix1 k) ↔ o n = k := by
    rw [lands d hw hs hv, ho, word_int, Fin.ext_iff, Nat.cast_inj]
  by_cases e : o n = k
  · rw [if_pos e, if_pos (h.2 e)]
  · rw [if_neg e, if_neg fun f => e (h.1 f)]

/-- The sums' indices are the hard assignments. -/
theorem owners_eq (A : Weights) (n : Fin 320000) : ownersOf A (ix2 n (0 : Fin 1)) = BitVec.ofNat 32 (own A n).val := by
  have h : ∀ v : IVec S320000 32, broadcastInDim S320000x1 ![0] bcast_S320000_S320000x1_0 v (ix2 n (0 : Fin 1)) = v (ix1 n) := fun v => by pointwise
  exact (h _).trans (argmax_eq A n)

/-- Sums by cluster over the points, the clusters given as words. -/
theorem segment_of (v : IVec S320000x1 32) (o : Fin 320000 → Fin 64) (hv : ∀ n, v (ix2 n (0 : Fin 1)) = BitVec.ofNat 32 (o n).val) (d : Column)
    (x : Row) (hx : ∀ k, x (ix1 k) = (0 : EReal)) (k : Fin 64) :
    Host.scatterAdd scatter_S64_S320000x1_S320000_n_0_0_1 x v d (ix1 k) = ∑ n : Fin 320000, if o n = k then (d (ix1 n) : EReal) else 0 :=
  scattered (N := 320000) scatter_S64_S320000x1_S320000_n_0_0_1 rfl rfl rfl x v d k (hx k) o hv

/-- The sums start from zero. -/
theorem zero_row (k : Fin 64) : row (num 0x00000000#32) (ix1 k) = (0 : EReal) := by
  pointwise

/-- The programs' sums by cluster are the sums over each cluster's points. -/
theorem segment_eq (A : Weights) (d : Column) (k : Fin 64) : segment A d (ix1 k) = seg A (fun n => d (ix1 n)) k := by
  have h := segment_of (ownersOf A) (own A) (owners_eq A) d (row (num 0x00000000#32)) zero_row k
  unfold segment seg
  exact h

end Cert.Losses

end
-- ==== Proof.RefLosses.lean ====
/- The reference programs' losses, read as functions of extended reals. -/
module

public import proofs.«01_k».proof.Proof.RefAssign

@[expose] public section

set_option maxRecDepth 16384

noncomputable section

namespace Cert.Losses

open Idealize.ShloMosaic
open Cert.Post_close Cert.Post_close.Facts
open Cert.Spec (Points Weights Centers own seg sq mass prob balance gap separation filled compact total mean spread smooth safe)

/-- The constant zero, as a choice's other branch. -/
theorem zero_num (i : S_.Idx) : (id (num 0x00000000#32) : Num) i = (0 : EReal) := by
  pointwise [id]

/-- The constant one, as a choice's other branch. -/
theorem one_num (i : S_.Idx) : (id (num 0x3F800000#32) : Num) i = (1 : EReal) := by
  pointwise [id]

/-- The clusters' shares are their totals over the number of points. -/
theorem probs_eq (A : Weights) (k : Fin 64) : probs A (ix1 k) = prob (mass A) k := by
  pointwise [probs]
  rfl

/-- The balance loss. -/
theorem balance_eq (A : Weights) : balanceOf (probs A) = fun _ => balance (mass A) := by
  have h : ∀ p : Row, (∀ k, p (ix1 k) = prob (mass A) k) → balanceOf p = fun _ => balance (mass A) := by
    intro p hp
    funext i
    pointwise [balanceOf]
    simp only [hp]
    rfl
  exact h _ (probs_eq A)

/-- The squared distances of the centers. -/
theorem gaps_eq (C : Centers) (r q : Fin 64) : gaps C (ix2 r q) = gap C r q := by
  pointwise [gaps, norms]
  rfl

/-- The mask off the diagonal. -/
theorem mask_eq (r q : Fin 64) : offDiagonal (ix2 r q) = if r = q then 0#1 else 1#1 := by
  pointwise [offDiagonal]
  revert r q
  decide +kernel

/-- The guarded root, entry by entry. -/
theorem rootSquare_eq (d : FVec Ideal S64x64 .f32) (r q : Fin 64) : rootSquare d (ix2 r q) = safe (d (ix2 r q)) := by
  pointwise [rootSquare, fn_where]
  rw [zero_num, one_num]
  rfl

/-- There are 4032 places off the diagonal. -/
theorem pairs_eq (i : S_.Idx) : pairs i = 4032#32 := by
  unfold pairs
  pointwise [offDiagonal]
  decide +kernel

/-- The separation loss. -/
theorem separation_eq (C : Centers) : separationOf C = fun _ => separation C := by
  have hn : ∀ i, (sitofp .f32 pairs : Num) i = Ideal.ofBits .f32 0x457C0000#32 := by
    intro i
    change (((pairs i).toInt : ℝ) : EReal) = _
    rw [pairs_eq, Cert.Spec.bits_4032]
    norm_num [show (4032#32).toInt = 4032 from by decide]
  have hd : ∀ r q, fn_where offDiagonal (rootSquare (gaps C)) (num 0x00000000#32) (ix2 r q) = if r = q then 0 else Ideal.sqrt (gap C r q) := by
    intro r q
    have h : ∀ (b : IVec S64x64 1) (d : FVec Ideal S64x64 .f32), fn_where b d (num 0x00000000#32) (ix2 r q) = Scalar.select (b (ix2 r q)) (d (ix2 r q)) (0 : EReal) := by
      intro b d
      pointwise [fn_where]
      rw [zero_num]
    rw [h, mask_eq, rootSquare_eq, gaps_eq, Cert.Spec.safe_eq (gap C r q) (le_max_right _ _)]
    split <;> rfl
  unfold separationOf
  generalize (fn_where offDiagonal (rootSquare (gaps C)) (num 0x00000000#32)) = d at hd
  generalize (sitofp .f32 pairs : Num) = n at hn
  funext i
  pointwise
  rw [hn]
  simp only [hd]
  rfl

/-- The points' distances with the divisor kept off zero. -/
theorem smoothRoot_eq (d : Column) (n : Fin 320000) : smoothRoot d (ix1 n) = smooth (d (ix1 n)) := by
  pointwise [smoothRoot]
  rfl

/-- The points' distances by the guarded root. -/
theorem safeRoot_eq (d : Column) (n : Fin 320000) : safeRoot d (ix1 n) = safe (d (ix1 n)) := by
  pointwise [safeRoot, fn_where_0]
  rw [zero_num, one_num]
  rfl

/-- A cluster's flag, read as a number. -/
theorem flag_eq (x : EReal) : FloatOps.uitofp (F := Ideal) .f32 (BitVec.ofBool (decide (0 < x))) = if 0 < x then (1 : EReal) else 0 := by
  change (((BitVec.ofBool (decide (0 < x))).toNat : ℝ) : EReal) = _
  by_cases h : 0 < x <;> simp [h]

/-- The compactness loss of sums and counts. -/
theorem compact_eq (s n : Row) : compactOf s n = fun _ => compact (fun k => s (ix1 k)) (fun k => n (ix1 k)) := by
  funext i
  pointwise [compactOf, occupied, fn_where_1, fn_where_2]
  simp only [flag_eq, zero_num, one_num]
  unfold compact filled
  have h : ∀ k, (if 0 < n (ix1 k) then Ideal.div (s (ix1 k)) (if 0 < n (ix1 k) then n (ix1 k) else 1) else (0 : EReal))
      = if 0 < n (ix1 k) then Ideal.div (s (ix1 k)) (n (ix1 k)) else 0 := fun k => by
    by_cases e : (0 : EReal) < n (ix1 k)
    · rw [if_pos e, if_pos e, if_pos e]
    · rw [if_neg e, if_neg e]
  simp only [h]

/-- The weighted total. -/
theorem total_eq (b s c : EReal) : totalOf (fun _ => b) (fun _ => s) (fun _ => c) = fun _ => total b s c := by
  funext i
  pointwise [totalOf]
  rfl

/-- The spread of the shares. -/
theorem spread_eq (A : Weights) : spreadOf (probs A) = fun _ => spread (mass A) := by
  have h : ∀ p : Row, (∀ k, p (ix1 k) = prob (mass A) k) → spreadOf p = fun _ => spread (mass A) := by
    intro p hp
    funext i
    pointwise [spreadOf, fn_std, fn_var, fn_where_2]
    simp only [hp]
    have e : Ideal.ofBits .f32 0x42800000#32 - FloatOps.sitofp (F := Ideal) .f32 1#32 = Ideal.ofBits .f32 0x427C0000#32 := by
      change Ideal.ofBits .f32 0x42800000#32 - ((((1#32).toInt : ℝ)) : EReal) = _
      rw [Cert.Spec.bits_64, Cert.Spec.bits_63, ← EReal.coe_sub]
      norm_num [show (1#32).toInt = 1 from by decide]
    have e' : (0 : EReal) < Ideal.ofBits .f32 0x427C0000#32 := by
      rw [Cert.Spec.bits_63]
      exact_mod_cast (by norm_num : (0 : ℝ) < 63)
    rw [e, if_pos e']
    rfl
  exact h _ (probs_eq A)

end Cert.Losses

end
-- ==== Proof.RefRun.lean ====
/- What the two reference programs leave in their results, as the array operations of the losses. -/
module

public import proofs.«01_k».proof.Proof.RefTerms
public import proofs.«01_k».proof.Proof.Gen.SmoothedIdeal
public import proofs.«01_k».proof.Proof.Gen.ReferenceIdeal

@[expose] public section

set_option maxRecDepth 16384

noncomputable section

namespace Cert.Losses

open Cert.Post_close (fn_where fn_argmax)

open Idealize.ShloMosaic Idealize.ShloMosaic.TcCoe Idealize.SL.Sem

/-- The index half of a search along rows, over any arrays. -/
def found {s t u : Shape} {axes : List (Fin s.rank)} (f : EReal × BitVec 32 → EReal × BitVec 32 → EReal × BitVec 32) (x : FVec Ideal s .f32) (y : IVec s 32)
    (ix : FVec Ideal u .f32) (iy : IVec u 32) (h : s.ReducesTo axes t) (hu : 0 < u.numel) : IVec t 32 :=
  fun j => (Host.argReduce (F := Ideal) (φ := .f32) f x y ix iy h hu j).2

/-- A search's indices are its index half. -/
theorem found_def {s t u : Shape} {axes : List (Fin s.rank)} (f : EReal × BitVec 32 → EReal × BitVec 32 → EReal × BitVec 32) (x : FVec Ideal s .f32)
    (y : IVec s 32) (ix : FVec Ideal u .f32) (iy : IVec u 32) (h : s.ReducesTo axes t) (hu : 0 < u.numel) :
    (fun j => (Host.argReduce (F := Ideal) (φ := .f32) f x y ix iy h hu j).2) = found f x y ix iy h hu := rfl

set_option maxHeartbeats 1600000 in
/-- The reference with the divisor kept off zero: its results are the losses at that distance. -/
theorem smoothed_run (m : (ℓ : Loc Cert.SmoothedIdeal.nD Cert.SmoothedIdeal.τ Cert.SmoothedIdeal.sig) → Buf (Elt Ideal) ℓ) (g : Dev Cert.SmoothedIdeal.nD → PrngReg) :
    θ_run (Cert.SmoothedIdeal.defs (F := Ideal)) (onTc (τ := Cert.SmoothedIdeal.τ) (Cert.SmoothedIdeal.main (F := Ideal))) ⟨m, fun _ => 0, g⟩ fun r => ∀ c : Dev Cert.SmoothedIdeal.nD,
      r.2.mem ((c : Thread Cert.SmoothedIdeal.nD Cert.SmoothedIdeal.τ).loc Cert.SmoothedIdeal.main_v81) = totalOf (balanceOf (probs (m ((c : Thread Cert.SmoothedIdeal.nD Cert.SmoothedIdeal.τ).loc Cert.SmoothedIdeal.main_arg1)))) (separationOf (m ((c : Thread Cert.SmoothedIdeal.nD Cert.SmoothedIdeal.τ).loc Cert.SmoothedIdeal.main_arg2))) (compactAll (m ((c : Thread Cert.SmoothedIdeal.nD Cert.SmoothedIdeal.τ).loc Cert.SmoothedIdeal.main_arg1)) (smoothRoot (squares (m ((c : Thread Cert.SmoothedIdeal.nD Cert.SmoothedIdeal.τ).loc Cert.SmoothedIdeal.main_arg0)) (m ((c : Thread Cert.SmoothedIdeal.nD Cert.SmoothedIdeal.τ).loc Cert.SmoothedIdeal.main_arg1)) (m ((c : Thread Cert.SmoothedIdeal.nD Cert.SmoothedIdeal.τ).loc Cert.SmoothedIdeal.main_arg2)))))
      ∧ r.2.mem ((c : Thread Cert.SmoothedIdeal.nD Cert.SmoothedIdeal.τ).loc Cert.SmoothedIdeal.main_v10) = balanceOf (probs (m ((c : Thread Cert.SmoothedIdeal.nD Cert.SmoothedIdeal.τ).loc Cert.SmoothedIdeal.main_arg1)))
      ∧ r.2.mem ((c : Thread Cert.SmoothedIdeal.nD Cert.SmoothedIdeal.τ).loc Cert.SmoothedIdeal.main_v42) = separationOf (m ((c : Thread Cert.SmoothedIdeal.nD Cert.SmoothedIdeal.τ).loc Cert.SmoothedIdeal.main_arg2))
      ∧ r.2.mem ((c : Thread Cert.SmoothedIdeal.nD Cert.SmoothedIdeal.τ).loc Cert.SmoothedIdeal.main_v76) = compactAll (m ((c : Thread Cert.SmoothedIdeal.nD Cert.SmoothedIdeal.τ).loc Cert.SmoothedIdeal.main_arg1)) (smoothRoot (squares (m ((c : Thread Cert.SmoothedIdeal.nD Cert.SmoothedIdeal.τ).loc Cert.SmoothedIdeal.main_arg0)) (m ((c : Thread Cert.SmoothedIdeal.nD Cert.SmoothedIdeal.τ).loc Cert.SmoothedIdeal.main_arg1)) (m ((c : Thread Cert.SmoothedIdeal.nD Cert.SmoothedIdeal.τ).loc Cert.SmoothedIdeal.main_arg2))))
      ∧ r.2.mem ((c : Thread Cert.SmoothedIdeal.nD Cert.SmoothedIdeal.τ).loc Cert.SmoothedIdeal.main_v82) = spreadOf (probs (m ((c : Thread Cert.SmoothedIdeal.nD Cert.SmoothedIdeal.τ).loc Cert.SmoothedIdeal.main_arg1)))
      ∧ r.2.mem ((c : Thread Cert.SmoothedIdeal.nD Cert.SmoothedIdeal.τ).loc Cert.SmoothedIdeal.main_arg0) = m ((c : Thread Cert.SmoothedIdeal.nD Cert.SmoothedIdeal.τ).loc Cert.SmoothedIdeal.main_arg0)
      ∧ r.2.mem ((c : Thread Cert.SmoothedIdeal.nD Cert.SmoothedIdeal.τ).loc Cert.SmoothedIdeal.main_arg1) = m ((c : Thread Cert.SmoothedIdeal.nD Cert.SmoothedIdeal.τ).loc Cert.SmoothedIdeal.main_arg1)
      ∧ r.2.mem ((c : Thread Cert.SmoothedIdeal.nD Cert.SmoothedIdeal.τ).loc Cert.SmoothedIdeal.main_arg2) = m ((c : Thread Cert.SmoothedIdeal.nD Cert.SmoothedIdeal.τ).loc Cert.SmoothedIdeal.main_arg2) := by
  hlo_run
  · rw [found_def]
    obtain ⟨F, hF⟩ : ∃ F, F = @found := ⟨_, rfl⟩
    rw [← hF]
    simp only [StableHlo.TRef.ofBuf, StableHlo.TRef.toBuf, cast_cast, cast_eq, id]
    have e : F (Cert.SmoothedIdeal.reducer_argmax_f32_i32 (F := Ideal)) (m ((c : Thread Cert.SmoothedIdeal.nD Cert.SmoothedIdeal.τ).loc Cert.SmoothedIdeal.main_arg1)) (iotaInDim Cert.SmoothedIdeal.S320000x64 32 1)
        (constant (F := Ideal) Cert.SmoothedIdeal.S_ .f32 0xFF800000#32) (constantI Cert.SmoothedIdeal.S_ 32 0#32) Cert.SmoothedIdeal.Gen.reducesTo_S320000x64_S320000_d1
        Cert.SmoothedIdeal.Gen.h_S_ = fn_argmax (F := Ideal) (m ((c : Thread Cert.SmoothedIdeal.nD Cert.SmoothedIdeal.τ).loc Cert.SmoothedIdeal.main_arg1)) := by
      rw [hF]
      rfl
    rw [e]
    unfold totalOf compactAll compactOf occupied segment ownersOf smoothRoot squares centerOf rowsOf
    generalize fn_argmax (F := Ideal) (m ((c : Thread Cert.SmoothedIdeal.nD Cert.SmoothedIdeal.τ).loc Cert.SmoothedIdeal.main_arg1)) = v
    rfl
  · rfl
  · simp only [StableHlo.TRef.ofBuf, StableHlo.TRef.toBuf, cast_cast, cast_eq, separationOf, rootSquare, gaps, norms, pairs, offDiagonal, fn_where, id]
    rfl
  · rw [found_def]
    obtain ⟨F, hF⟩ : ∃ F, F = @found := ⟨_, rfl⟩
    rw [← hF]
    simp only [StableHlo.TRef.ofBuf, StableHlo.TRef.toBuf, cast_cast, cast_eq, id]
    have e : F (Cert.SmoothedIdeal.reducer_argmax_f32_i32 (F := Ideal)) (m ((c : Thread Cert.SmoothedIdeal.nD Cert.SmoothedIdeal.τ).loc Cert.SmoothedIdeal.main_arg1)) (iotaInDim Cert.SmoothedIdeal.S320000x64 32 1)
        (constant (F := Ideal) Cert.SmoothedIdeal.S_ .f32 0xFF800000#32) (constantI Cert.SmoothedIdeal.S_ 32 0#32) Cert.SmoothedIdeal.Gen.reducesTo_S320000x64_S320000_d1
        Cert.SmoothedIdeal.Gen.h_S_ = fn_argmax (F := Ideal) (m ((c : Thread Cert.SmoothedIdeal.nD Cert.SmoothedIdeal.τ).loc Cert.SmoothedIdeal.main_arg1)) := by
      rw [hF]
      rfl
    rw [e]
    unfold compactAll compactOf occupied segment ownersOf smoothRoot squares centerOf rowsOf
    generalize fn_argmax (F := Ideal) (m ((c : Thread Cert.SmoothedIdeal.nD Cert.SmoothedIdeal.τ).loc Cert.SmoothedIdeal.main_arg1)) = v
    rfl
  · rfl

set_option maxHeartbeats 1600000 in
/-- The reference: its results are the losses at that distance. -/
theorem reference_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ fun r => ∀ c : Dev Cert.ReferenceIdeal.nD,
      r.2.mem ((c : Thread Cert.ReferenceIdeal.nD Cert.ReferenceIdeal.τ).loc Cert.ReferenceIdeal.main_v82) = totalOf (balanceOf (probs (m ((c : Thread Cert.ReferenceIdeal.nD Cert.ReferenceIdeal.τ).loc Cert.ReferenceIdeal.main_arg1)))) (separationOf (m ((c : Thread Cert.ReferenceIdeal.nD Cert.ReferenceIdeal.τ).loc Cert.ReferenceIdeal.main_arg2))) (compactAll (m ((c : Thread Cert.ReferenceIdeal.nD Cert.ReferenceIdeal.τ).loc Cert.ReferenceIdeal.main_arg1)) (safeRoot (squares (m ((c : Thread Cert.ReferenceIdeal.nD Cert.ReferenceIdeal.τ).loc Cert.ReferenceIdeal.main_arg0)) (m ((c : Thread Cert.ReferenceIdeal.nD Cert.ReferenceIdeal.τ).loc Cert.ReferenceIdeal.main_arg1)) (m ((c : Thread Cert.ReferenceIdeal.nD Cert.ReferenceIdeal.τ).loc Cert.ReferenceIdeal.main_arg2)))))
      ∧ r.2.mem ((c : Thread Cert.ReferenceIdeal.nD Cert.ReferenceIdeal.τ).loc Cert.ReferenceIdeal.main_v10) = balanceOf (probs (m ((c : Thread Cert.ReferenceIdeal.nD Cert.ReferenceIdeal.τ).loc Cert.ReferenceIdeal.main_arg1)))
      ∧ r.2.mem ((c : Thread Cert.ReferenceIdeal.nD Cert.ReferenceIdeal.τ).loc Cert.ReferenceIdeal.main_v42) = separationOf (m ((c : Thread Cert.ReferenceIdeal.nD Cert.ReferenceIdeal.τ).loc Cert.ReferenceIdeal.main_arg2))
      ∧ r.2.mem ((c : Thread Cert.ReferenceIdeal.nD Cert.ReferenceIdeal.τ).loc Cert.ReferenceIdeal.main_v77) = compactAll (m ((c : Thread Cert.ReferenceIdeal.nD Cert.ReferenceIdeal.τ).loc Cert.ReferenceIdeal.main_arg1)) (safeRoot (squares (m ((c : Thread Cert.ReferenceIdeal.nD Cert.ReferenceIdeal.τ).loc Cert.ReferenceIdeal.main_arg0)) (m ((c : Thread Cert.ReferenceIdeal.nD Cert.ReferenceIdeal.τ).loc Cert.ReferenceIdeal.main_arg1)) (m ((c : Thread Cert.ReferenceIdeal.nD Cert.ReferenceIdeal.τ).loc Cert.ReferenceIdeal.main_arg2))))
      ∧ r.2.mem ((c : Thread Cert.ReferenceIdeal.nD Cert.ReferenceIdeal.τ).loc Cert.ReferenceIdeal.main_v83) = spreadOf (probs (m ((c : Thread Cert.ReferenceIdeal.nD Cert.ReferenceIdeal.τ).loc Cert.ReferenceIdeal.main_arg1)))
      ∧ r.2.mem ((c : Thread Cert.ReferenceIdeal.nD Cert.ReferenceIdeal.τ).loc Cert.ReferenceIdeal.main_arg0) = m ((c : Thread Cert.ReferenceIdeal.nD Cert.ReferenceIdeal.τ).loc Cert.ReferenceIdeal.main_arg0)
      ∧ r.2.mem ((c : Thread Cert.ReferenceIdeal.nD Cert.ReferenceIdeal.τ).loc Cert.ReferenceIdeal.main_arg1) = m ((c : Thread Cert.ReferenceIdeal.nD Cert.ReferenceIdeal.τ).loc Cert.ReferenceIdeal.main_arg1)
      ∧ r.2.mem ((c : Thread Cert.ReferenceIdeal.nD Cert.ReferenceIdeal.τ).loc Cert.ReferenceIdeal.main_arg2) = m ((c : Thread Cert.ReferenceIdeal.nD Cert.ReferenceIdeal.τ).loc Cert.ReferenceIdeal.main_arg2) := by
  hlo_run
  · rw [found_def]
    obtain ⟨F, hF⟩ : ∃ F, F = @found := ⟨_, rfl⟩
    rw [← hF]
    simp only [StableHlo.TRef.ofBuf, StableHlo.TRef.toBuf, cast_cast, cast_eq, id]
    have e : F (Cert.ReferenceIdeal.reducer_argmax_f32_i32 (F := Ideal)) (m ((c : Thread Cert.ReferenceIdeal.nD Cert.ReferenceIdeal.τ).loc Cert.ReferenceIdeal.main_arg1)) (iotaInDim Cert.ReferenceIdeal.S320000x64 32 1)
        (constant (F := Ideal) Cert.ReferenceIdeal.S_ .f32 0xFF800000#32) (constantI Cert.ReferenceIdeal.S_ 32 0#32) Cert.ReferenceIdeal.Gen.reducesTo_S320000x64_S320000_d1
        Cert.ReferenceIdeal.Gen.h_S_ = fn_argmax (F := Ideal) (m ((c : Thread Cert.ReferenceIdeal.nD Cert.ReferenceIdeal.τ).loc Cert.ReferenceIdeal.main_arg1)) := by
      rw [hF]
      rfl
    rw [e]
    unfold totalOf compactAll compactOf occupied segment ownersOf safeRoot squares centerOf rowsOf
    generalize fn_argmax (F := Ideal) (m ((c : Thread Cert.ReferenceIdeal.nD Cert.ReferenceIdeal.τ).loc Cert.ReferenceIdeal.main_arg1)) = v
    rfl
  · rfl
  · simp only [StableHlo.TRef.ofBuf, StableHlo.TRef.toBuf, cast_cast, cast_eq, separationOf, rootSquare, gaps, norms, pairs, offDiagonal, fn_where, id]
    rfl
  · rw [found_def]
    obtain ⟨F, hF⟩ : ∃ F, F = @found := ⟨_, rfl⟩
    rw [← hF]
    simp only [StableHlo.TRef.ofBuf, StableHlo.TRef.toBuf, cast_cast, cast_eq, id]
    have e : F (Cert.ReferenceIdeal.reducer_argmax_f32_i32 (F := Ideal)) (m ((c : Thread Cert.ReferenceIdeal.nD Cert.ReferenceIdeal.τ).loc Cert.ReferenceIdeal.main_arg1)) (iotaInDim Cert.ReferenceIdeal.S320000x64 32 1)
        (constant (F := Ideal) Cert.ReferenceIdeal.S_ .f32 0xFF800000#32) (constantI Cert.ReferenceIdeal.S_ 32 0#32) Cert.ReferenceIdeal.Gen.reducesTo_S320000x64_S320000_d1
        Cert.ReferenceIdeal.Gen.h_S_ = fn_argmax (F := Ideal) (m ((c : Thread Cert.ReferenceIdeal.nD Cert.ReferenceIdeal.τ).loc Cert.ReferenceIdeal.main_arg1)) := by
      rw [hF]
      rfl
    rw [e]
    unfold compactAll compactOf occupied segment ownersOf safeRoot squares centerOf rowsOf
    generalize fn_argmax (F := Ideal) (m ((c : Thread Cert.ReferenceIdeal.nD Cert.ReferenceIdeal.τ).loc Cert.ReferenceIdeal.main_arg1)) = v
    rfl
  · rfl

end Cert.Losses

end
-- ==== Proof.Values.lean ====
/- The kernel's results beside the two reference programs' results. -/
module

public import proofs.«01_k».proof.Defs
public import proofs.«01_k».proof.Proof.KernelValue
public import proofs.«01_k».proof.Proof.RefLosses
public import proofs.«01_k».proof.Proof.RefRun

@[expose] public section

set_option maxRecDepth 16384

noncomputable section

namespace Cert.Losses

open Idealize.ShloMosaic Idealize.ShloMosaic.TcCoe Idealize.SL.Sem
open Cert.Spec (Points Weights Centers own seg sq mass prob balance gap separation filled compact total mean spread smooth safe)
open Cert.KernelIdeal.Losses (pts wts ctr)

/-- A value whose magnitude is below infinity is real. -/
theorem real_of_below (x : EReal) (h : Ideal.cmp .olt (max x (-x)) (Ideal.ofBits .f32 0x7F800000#32) = 1#1) : ∃ r : ℝ, x = r := by
  rw [Cert.Spec.bits_inf] at h
  have hx : max x (-x) < ⊤ := by
    by_contra h'
    change BitVec.ofBool (decide (max x (-x) < ⊤)) = 1#1 at h
    rw [decide_eq_false h'] at h
    exact absurd h (by decide)
  induction x using EReal.rec with
  | bot => simp at hx
  | coe r => exact ⟨r, rfl⟩
  | top => simp at hx

/-- The finiteness predicate makes the points real. -/
theorem points_real (Z : Points) (A : Weights) (C : Centers) (h : (Cert.Pre_finite.fn (F := Ideal) Z A C).1 = fun _ => 1#1) (n : Fin 320000) (j : Fin 128) :
    ∃ r : ℝ, Z (ix2 n j) = r := real_of_below _ (congrFun h (ix2 n j))

/-- The finiteness predicate makes the centers real. -/
theorem centers_real (Z : Points) (A : Weights) (C : Centers) (h : (Cert.Pre_finite.fn (F := Ideal) Z A C).2 = fun _ => 1#1) (q : Fin 64) (j : Fin 128) :
    ∃ r : ℝ, C (ix2 q j) = r := real_of_below _ (congrFun h (ix2 q j))

/-- The column of ones. -/
theorem ones (n : Fin 320000) : column (num 0x3F800000#32) (ix1 n) = (1 : EReal) := by
  pointwise

/-- The compactness loss of a column of distances. -/
theorem compactAll_eq (A : Weights) (d : Column) : compactAll A d = fun _ => compact (seg A fun n => d (ix1 n)) (seg A fun _ => 1) := by
  unfold compactAll
  rw [compact_eq, funext (segment_eq A d), funext (segment_eq A (column (num 0x3F800000#32))), funext ones]

/-- The compactness loss at the distance with its divisor kept off zero. -/
theorem compact_smooth (Z : Points) (A : Weights) (C : Centers) :
    compactAll A (smoothRoot (squares Z A C)) = fun _ => compact (seg A fun n => smooth (sq Z A C n)) (seg A fun _ => 1) := by
  rw [compactAll_eq]
  simp only [smoothRoot_eq, squares_eq]

/-- The compactness loss at the guarded root. -/
theorem compact_safe (Z : Points) (A : Weights) (C : Centers) :
    compactAll A (safeRoot (squares Z A C)) = fun _ => compact (seg A fun n => safe (sq Z A C n)) (seg A fun _ => 1) := by
  rw [compactAll_eq]
  simp only [safeRoot_eq, squares_eq]

/-- The total at a compactness loss that is read. -/
theorem total_read (A : Weights) (C : Centers) (k : Num) (x : EReal) (h : k = fun _ => x) :
    totalOf (balanceOf (probs A)) (separationOf C) k = fun _ => total (balance (mass A)) (separation C) x := by
  rw [h, balance_eq, separation_eq, total_eq]

/-- On finite points and centers the kernel and the reference that keeps the divisor off zero leave the same five results. -/
theorem smoothed_pair : Cert.algebraic_KernelIdeal_SmoothedIdeal_pre_finite := by
  intro m g m' g' hpre hagree
  refine ⟨fun c _ => total (balance (mass (wts m c))) (separation (ctr m c))
      (compact (seg (wts m c) fun n => smooth (sq (pts m c) (wts m c) (ctr m c) n)) (seg (wts m c) fun _ => 1)),
    fun c _ => balance (mass (wts m c)), fun c _ => separation (ctr m c),
    fun c _ => compact (seg (wts m c) fun n => smooth (sq (pts m c) (wts m c) (ctr m c) n)) (seg (wts m c) fun _ => 1),
    fun c _ => spread (mass (wts m c)), ?_, ?_⟩
  · refine (θ_run _ _ _).mono (fun r h c => ?_) (Cert.KernelIdeal.Losses.run m g)
    obtain ⟨h0, h1, h2, h3, h4, hargs⟩ := h c
    obtain ⟨e1, e2, e4⟩ := Cert.KernelIdeal.Losses.lane_results m c
    obtain ⟨e0, e3⟩ := Cert.KernelIdeal.Losses.lane_results_finite m c (points_real _ _ _ (hpre c).1) (centers_real _ _ _ (hpre c).2)
    exact ⟨h0.trans (funext fun _ => e0), h1.trans (funext fun _ => e1), h2.trans (funext fun _ => e2), h3.trans (funext fun _ => e3),
      h4.trans (funext fun _ => e4), hargs⟩
  · refine (θ_run _ _ _).mono (fun r h c => ?_) (smoothed_run m' g')
    obtain ⟨h0, h1, h2, h3, h4, hargs⟩ := h c
    obtain ⟨a0, a1, a2⟩ := hagree c
    rw [a0, a1, a2] at h0 h3
    rw [a1] at h1 h4
    rw [a2] at h2
    exact ⟨h0.trans (total_read _ _ _ _ (compact_smooth _ _ _)), h1.trans (balance_eq _), h2.trans (separation_eq _),
      h3.trans (compact_smooth _ _ _), h4.trans (spread_eq _), hargs⟩

/-- The mask leaves a result out. -/
theorem left_out {P : Prop} (h : (0#1 : BitVec 1) = 1#1) : P := absurd h (by decide)

/-- On every input the kernel and the reference with the guarded root leave the same balance, separation and spread. -/
theorem reference_pair : Cert.algebraic_KernelIdeal_ReferenceIdeal_on_apart := by
  intro m g m' g' _ hagree
  refine ⟨fun _ _ => (0 : EReal), fun c _ => balance (mass (wts m c)), fun c _ => separation (ctr m c), fun _ _ => (0 : EReal),
    fun c _ => spread (mass (wts m c)), ?_, ?_⟩
  · refine (θ_run _ _ _).mono (fun r h c => ?_) (Cert.KernelIdeal.Losses.run m g)
    obtain ⟨-, h1, h2, -, h4, hargs⟩ := h c
    obtain ⟨e1, e2, e4⟩ := Cert.KernelIdeal.Losses.lane_results m c
    exact ⟨fun i hi => left_out hi, fun i _ => (congrFun h1 i).trans e1, fun i _ => (congrFun h2 i).trans e2, fun i hi => left_out hi,
      fun i _ => (congrFun h4 i).trans e4, hargs⟩
  · refine (θ_run _ _ _).mono (fun r h c => ?_) (reference_run m' g')
    obtain ⟨-, h1, h2, -, h4, hargs⟩ := h c
    obtain ⟨-, a1, a2⟩ := hagree c
    rw [a1] at h1 h4
    rw [a2] at h2
    exact ⟨fun i hi => left_out hi, fun i _ => (congrFun h1 i).trans (congrFun (balance_eq _) i),
      fun i _ => (congrFun h2 i).trans (congrFun (separation_eq _) i), fun i hi => left_out hi,
      fun i _ => (congrFun h4 i).trans (congrFun (spread_eq _) i), hargs⟩

end Cert.Losses

end
-- ==== Proof.Bound.lean ====
/- How far the point distance with its divisor kept off zero moves the compactness loss and the total. -/
module

public import proofs.«01_k».proof.Proof.Spec

@[expose] public section

noncomputable section

namespace Cert.Spec

open Idealize.ShloMosaic

theorem bits_tenth : Ideal.ofBits .f32 0x3DCCCCCD#32 = ((13421773 * 2 ^ (-27 : ℤ) : ℝ) : EReal) := by
  simp [Ideal.ofBits, Ideal.ieee, -EReal.coe_mul]
theorem bits_ten_millionth : Ideal.ofBits .f32 0x33D6BF95#32 = ((14073749 * 2 ^ (-47 : ℤ) : ℝ) : EReal) := by
  simp [Ideal.ofBits, Ideal.ieee, -EReal.coe_mul]
theorem bits_millionth : Ideal.ofBits .f32 0x358637BD#32 = ((8796093 * 2 ^ (-43 : ℤ) : ℝ) : EReal) := by
  simp [Ideal.ofBits, Ideal.ieee, -EReal.coe_mul]

/-- A bound on the difference of a point's two distances. -/
def slack : ℝ := 5 / 10 ^ 7

theorem slack_pos : 0 < slack := by unfold slack; norm_num

/-- The distance with its divisor kept off zero lies below the root, by no more than the slack. -/
theorem root_near (r : ℝ) (h : 0 ≤ r) : r / Real.sqrt (r + shift) ≤ Real.sqrt r ∧ Real.sqrt r ≤ r / Real.sqrt (r + shift) + slack := by
  have hs := shift_pos
  have hs' : shift ≤ 4 * slack * slack := by unfold shift slack; norm_num
  have hp : 0 < r + shift := by linarith
  obtain ⟨a, ha⟩ : ∃ a, a = Real.sqrt r := ⟨_, rfl⟩
  obtain ⟨b, hb⟩ : ∃ b, b = Real.sqrt (r + shift) := ⟨_, rfl⟩
  have ha0 : 0 ≤ a := ha ▸ Real.sqrt_nonneg r
  have hb0 : 0 < b := hb ▸ Real.sqrt_pos.2 hp
  have haa : a * a = r := ha ▸ Real.mul_self_sqrt h
  have hbb : b * b = r + shift := hb ▸ Real.mul_self_sqrt hp.le
  have hab : a ≤ b := by
    rw [ha, hb]
    exact Real.sqrt_le_sqrt (by linarith)
  rw [← ha, ← hb]
  constructor
  · rw [div_le_iff₀ hb0, ← haa]
    exact mul_le_mul_of_nonneg_left hab ha0
  · have hk : a * (b - a) ≤ slack * b := by
      refine abs_le_of_sq_le_sq' ?_ (mul_nonneg slack_pos.le hb0.le) |>.2
      have h1 : 4 * a * (b - a) ≤ b * b := by nlinarith [mul_self_nonneg (b - 2 * a)]
      have h2 : 4 * a * a * (b - a) ≤ b * b * (b + a) := by nlinarith [mul_nonneg (mul_self_nonneg b) hb0.le, mul_le_mul_of_nonneg_left h1 ha0]
      have h3 : 4 * a * a * (b - a) * (b - a) ≤ b * b * shift := by
        have h4 : (b + a) * (b - a) = shift := by nlinarith
        calc 4 * a * a * (b - a) * (b - a) ≤ b * b * (b + a) * (b - a) := mul_le_mul_of_nonneg_right h2 (by linarith)
          _ = b * b * shift := by rw [mul_assoc (b * b), h4]
      have h5 : b * b * shift ≤ b * b * (4 * slack * slack) := mul_le_mul_of_nonneg_left hs' (mul_self_nonneg b)
      nlinarith
    have hd : r / b * b = r := div_mul_cancel₀ r hb0.ne'
    have : a * b ≤ (r / b + slack) * b := by nlinarith
    exact le_of_mul_le_mul_right this hb0

/-- The sum of real numbers over the points of a cluster. -/
def realSum (A : Weights) (x : Fin 320000 → ℝ) (k : Fin 64) : ℝ := ∑ n, if own A n = k then x n else 0

/-- A cluster's sum of reals is real. -/
theorem seg_coe (A : Weights) (x : Fin 320000 → ℝ) : (seg A fun n => (x n : EReal)) = fun k => (realSum A x k : EReal) := by
  funext k
  unfold seg realSum
  rw [← coe_sum]
  refine Finset.sum_congr rfl fun n _ => ?_
  split <;> rfl

/-- The number of positive counts, as a real. -/
def realFilled (c : Fin 64 → ℝ) : ℝ := ∑ k, if 0 < c k then 1 else 0

/-- The compactness loss of real sums and counts. -/
def realCompact (s c : Fin 64 → ℝ) : ℝ :=
  if 0 < realFilled c then (∑ k, if 0 < c k then s k / c k else 0) / max (realFilled c) 1 else 0

/-- The number of positive real counts is real. -/
theorem filled_coe (c : Fin 64 → ℝ) : (filled fun k => (c k : EReal)) = (realFilled c : EReal) := by
  unfold filled realFilled
  rw [← coe_sum]
  refine Finset.sum_congr rfl fun k _ => ?_
  by_cases h : 0 < c k
  · rw [if_pos h, if_pos (EReal.coe_pos.2 h), EReal.coe_one]
  · rw [if_neg h, if_neg fun h' => h (EReal.coe_pos.1 h'), EReal.coe_zero]

/-- The compactness loss of real sums and counts is real. -/
theorem compact_coe (s c : Fin 64 → ℝ) : compact (fun k => (s k : EReal)) (fun k => (c k : EReal)) = (realCompact s c : EReal) := by
  unfold compact realCompact
  rw [filled_coe]
  by_cases hf : 0 < realFilled c
  · have hm : max (realFilled c : EReal) 1 = ((max (realFilled c) 1 : ℝ) : EReal) := by
      rw [← EReal.coe_one]
      exact (EReal.coe_strictMono.monotone.map_max).symm
    have hsum : (∑ k, if 0 < (c k : EReal) then Ideal.div (s k : EReal) (c k : EReal) else 0)
        = ((∑ k, if 0 < c k then s k / c k else 0 : ℝ) : EReal) := by
      rw [← coe_sum]
      refine Finset.sum_congr rfl fun k _ => ?_
      by_cases h : 0 < c k
      · rw [if_pos h, if_pos (by exact_mod_cast h), div_coe _ _ h.ne']
      · rw [if_neg h, if_neg (by exact_mod_cast h), EReal.coe_zero]
    rw [if_pos hf, if_pos (by exact_mod_cast hf), hm, hsum, div_coe _ _ (lt_of_lt_of_le one_pos (le_max_right _ _)).ne']
  · rw [if_neg hf, if_neg (by exact_mod_cast hf), EReal.coe_zero]

/-- Distances that grow by no more than `e` grow the compactness loss by no more than `e`. -/
theorem compact_le (A : Weights) (x y : Fin 320000 → ℝ) (e : ℝ) (he : 0 ≤ e) (h : ∀ n, x n ≤ y n + e) :
    realCompact (realSum A x) (realSum A fun _ => 1) ≤ realCompact (realSum A y) (realSum A fun _ => 1) + e := by
  generalize hc : (realSum A fun _ => 1) = c
  have hk : ∀ k, realSum A x k ≤ realSum A y k + e * c k := by
    intro k
    rw [← hc]
    unfold realSum
    rw [Finset.mul_sum, ← Finset.sum_add_distrib]
    refine Finset.sum_le_sum fun n _ => ?_
    split
    · rw [mul_one]
      exact h n
    · simp
  unfold realCompact
  split
  · next hf =>
    have hm : 0 < max (realFilled c) 1 := lt_of_lt_of_le one_pos (le_max_right _ _)
    have hs : (∑ k, if 0 < c k then realSum A x k / c k else 0) ≤ (∑ k, if 0 < c k then realSum A y k / c k else 0) + e * realFilled c := by
      unfold realFilled
      rw [Finset.mul_sum, ← Finset.sum_add_distrib]
      refine Finset.sum_le_sum fun k _ => ?_
      split
      · next h0 =>
        rw [mul_one, div_le_iff₀ h0, add_mul, div_mul_cancel₀ _ h0.ne']
        exact hk k
      · simp
    rw [div_le_iff₀ hm, add_mul, div_mul_cancel₀ _ hm.ne']
    have := mul_le_mul_of_nonneg_left (le_max_left (realFilled c) 1) he
    linarith
  · linarith

/-- The compactness losses at the two distances, on finite points and centers: reals no further apart than the slack. -/
theorem compact_near (Z : Points) (A : Weights) (C : Centers) (hz : ∀ n j, ∃ r : ℝ, Z (ix2 n j) = r) (hC : ∀ q j, ∃ r : ℝ, C (ix2 q j) = r) :
    ∃ p q : ℝ, compact (seg A fun n => smooth (sq Z A C n)) (seg A fun _ => 1) = (p : EReal)
      ∧ compact (seg A fun n => safe (sq Z A C n)) (seg A fun _ => 1) = (q : EReal) ∧ p ≤ q ∧ q ≤ p + slack := by
  have hr : ∀ n, ∃ r : ℝ, 0 ≤ r ∧ sq Z A C n = (r : EReal) := fun n => sq_real _ _ (fun j => hz n j) fun j => hC (own A n) j
  choose r hr0 hr using hr
  have h1 : (seg A fun n => smooth (sq Z A C n)) = fun k => (realSum A (fun n => r n / Real.sqrt (r n + shift)) k : EReal) := by
    rw [← seg_coe]
    exact congrArg (seg A) (funext fun n => by rw [hr, smooth_coe _ (hr0 n)])
  have h2 : (seg A fun n => safe (sq Z A C n)) = fun k => (realSum A (fun n => Real.sqrt (r n)) k : EReal) := by
    rw [← seg_coe]
    exact congrArg (seg A) (funext fun n => by rw [hr, safe_eq _ (by exact_mod_cast hr0 n), sqrt_coe _ (hr0 n)])
  have h3 : (seg A fun _ => 1) = fun k => (realSum A (fun _ => 1) k : EReal) := by
    rw [← seg_coe]
    exact congrArg (seg A) (funext fun n => EReal.coe_one.symm)
  refine ⟨realCompact (realSum A fun n => r n / Real.sqrt (r n + shift)) (realSum A fun _ => 1),
    realCompact (realSum A fun n => Real.sqrt (r n)) (realSum A fun _ => 1), ?_, ?_, ?_, ?_⟩
  · rw [h1, h3, compact_coe]
  · rw [h2, h3, compact_coe]
  · have := compact_le A (fun n => r n / Real.sqrt (r n + shift)) (fun n => Real.sqrt (r n)) 0 le_rfl fun n => by
      rw [add_zero]
      exact (root_near (r n) (hr0 n)).1
    rwa [add_zero] at this
  · exact compact_le A _ _ slack slack_pos.le fun n => (root_near (r n) (hr0 n)).2

/-- Compactness losses no further apart than the slack leave the compactness result within its tolerance. -/
theorem compact_within (p q : ℝ) (h : p ≤ q + slack) : (p : EReal) ≤ (q : EReal) + Ideal.ofBits .f32 0x358637BD#32 := by
  rw [bits_millionth, ← EReal.coe_add, EReal.coe_le_coe_iff]
  have : slack ≤ 8796093 * 2 ^ (-43 : ℤ) := by unfold slack; norm_num
  linarith

/-- Compactness losses no further apart than the slack leave the total within its tolerance. -/
theorem total_within (b s : EReal) (p q : ℝ) (h : p ≤ q + slack) : total b s p ≤ total b s q + Ideal.ofBits .f32 0x33D6BF95#32 := by
  unfold total
  rw [bits_tenth, bits_ten_millionth, add_assoc _ (_ * (q : EReal))]
  refine add_le_add le_rfl ?_
  rw [← EReal.coe_mul, ← EReal.coe_mul, ← EReal.coe_add, EReal.coe_le_coe_iff]
  have h0 : (0 : ℝ) ≤ 13421773 * 2 ^ (-27 : ℤ) := by norm_num
  have h1 := mul_le_mul_of_nonneg_left h h0
  have h2 : 13421773 * 2 ^ (-27 : ℤ) * slack ≤ (14073749 * 2 ^ (-47 : ℤ) : ℝ) := by unfold slack; norm_num
  rw [mul_add] at h1
  linarith

end Cert.Spec

end
-- ==== Proof.Near.lean ====
/- The kernel's total and compactness loss stay within the tolerances of the reference with the guarded root. -/
module

public import proofs.«01_k».proof.Proof.Bound
public import proofs.«01_k».proof.Proof.Values

@[expose] public section

set_option maxRecDepth 16384

noncomputable section

namespace Cert.Losses

open Idealize.ShloMosaic Idealize.ShloMosaic.TcCoe Idealize.SL.Sem
open Cert.Spec (Points Weights Centers seg sq mass balance separation compact total smooth safe slack)
open Cert.KernelIdeal.Losses (pts wts ctr)

/-- A comparison that holds is one. -/
theorem ole_one (x y : EReal) (h : x ≤ y) : Ideal.cmp .ole x y = 1#1 := by
  change BitVec.ofBool (decide (x ≤ y)) = 1#1
  rw [decide_eq_true h]
  rfl

/-- The tolerance predicate is all ones of the total and the compactness loss at the distance with its divisor kept off zero. -/
theorem within (Z : Points) (A : Weights) (C : Centers) (b s d : Num) (hz : ∀ n j, ∃ r : ℝ, Z (ix2 n j) = r) (hC : ∀ q j, ∃ r : ℝ, C (ix2 q j) = r)
    (t k : Num)
    (ht : t = fun _ => total (balance (mass A)) (separation C) (compact (seg A fun n => smooth (sq Z A C n)) (seg A fun _ => 1)))
    (hk : k = fun _ => compact (seg A fun n => smooth (sq Z A C n)) (seg A fun _ => 1)) :
    (Cert.Post_close.fn (F := Ideal) Z A C t b s k d).1 = (fun _ => 1#1)
      ∧ (Cert.Post_close.fn (F := Ideal) Z A C t b s k d).2.1 = (fun _ => 1#1)
      ∧ (Cert.Post_close.fn (F := Ideal) Z A C t b s k d).2.2.1 = (fun _ => 1#1)
      ∧ (Cert.Post_close.fn (F := Ideal) Z A C t b s k d).2.2.2 = (fun _ => 1#1) := by
  obtain ⟨p, q, hp, hq, hpq, hqp⟩ := Cert.Spec.compact_near Z A C hz hC
  have hpq' : p ≤ q + slack := by have := Cert.Spec.slack_pos; linarith
  rw [close_eq, total_read A C _ _ (compact_safe Z A C), compact_safe Z A C, ht, hk, hp, hq]
  exact ⟨funext fun _ => ole_one _ _ (Cert.Spec.total_within _ _ p q hpq'), funext fun _ => ole_one _ _ (Cert.Spec.total_within _ _ q p hqp),
    funext fun _ => ole_one _ _ (Cert.Spec.compact_within p q hpq'), funext fun _ => ole_one _ _ (Cert.Spec.compact_within q p hqp)⟩

/-- On finite points and centers the kernel's total and compactness loss stay within the tolerances. -/
theorem near : Cert.holds_KernelIdeal_close_pre_finite := by
  intro m g hpre
  refine (θ_run _ _ _).mono (fun r h c => ?_) (Cert.KernelIdeal.Losses.run m g)
  obtain ⟨h0, -, -, h3, -, u0, u1, u2⟩ := h c
  have hz := points_real _ _ _ (hpre c).1
  have hC := centers_real _ _ _ (hpre c).2
  obtain ⟨e0, e3⟩ := Cert.KernelIdeal.Losses.lane_results_finite m c hz hC
  exact ⟨u0, u1, u2, within _ _ _ _ _ _ hz hC _ _ (h0.trans (funext fun _ => e0)) (h3.trans (funext fun _ => e3))⟩

end Cert.Losses

end
-- ==== Proof.lean ====
/- The proof of the certificate: the frames of the programs, the kernel's agreement with its idealized form, and its values. -/
module

public import proofs.«01_k».proof.Defs
public import proofs.«01_k».proof.Proof.Gen.Kernel.Frame
public import proofs.«01_k».proof.Proof.Gen.KernelIdeal.Frame
public import proofs.«01_k».proof.Proof.Refs
public import proofs.«01_k».proof.Proof.Values
public import proofs.«01_k».proof.Proof.Near

@[expose] public section

noncomputable section

namespace Cert.Proof

open Idealize.ShloMosaic Idealize.SL.Sem Cert.Kernel

/-- Every conjunct of the certificate holds. -/
theorem claim : Cert.Claim := ⟨Cert.Kernel.Gen.facts, Cert.KernelIdeal.Gen.facts, Cert.ReferenceIdeal.Gen.facts, Cert.SmoothedIdeal.Gen.facts,
  Cert.Losses.finiteFacts, Cert.Losses.closeFacts, Cert.Losses.apartFacts,
  fun m ρ _ => Cert.Kernel.Gen.frame m ρ, fun m ρ _ => Cert.KernelIdeal.Gen.frame m ρ, fun m ρ _ => Cert.KernelIdeal.Gen.frame m ρ,
  Cert.Refs.reference_rests, Cert.Refs.smoothed_rests, fun m ρ _ => Cert.Refs.smoothed_rests m ρ trivial,
  trivial, Cert.Losses.reference_pair, Cert.Losses.smoothed_pair, Cert.Losses.near⟩

end Cert.Proof

end
